-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "h" .f32 0x3C010204#32 ((1 / 127 : ℝ) : EReal)
  ∧ IdealRules.named_const.Statement Cert.KernelIdeal.κ "c1" .f32 0x41A95555#32 ((127 / 6 : ℝ) : EReal)
  ∧ IdealRules.named_const.Statement Cert.KernelIdeal.κ "c2" .f32 0x3AAC02B0#32 ((1 / 762 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192 : Shape := ⟨1, ![8192]⟩
abbrev S126x512 : Shape := ⟨2, ![126, 512]⟩
abbrev S8 : Shape := ⟨1, ![8]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S126x512 : S_.BroadcastsInDim S126x512 (![] : Fin 0 → Fin S126x512.rank)
  reducesTo_S126x512_S_d0_1 : S126x512.ReducesTo [0, 1] S_

variable [Facts]

def fn {F : FTy → Type} [FloatOps F] (main_arg0 : FVec F S8192 .f32) (main_arg1 : FVec F S126x512 .f32) (main_arg2 : FVec F S126x512 .f32) (main_arg3 : FVec F S8 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S126x512 .f32 := Host.absf main_arg1
  let main_cst_0 : FVec F S_ .f32 := constant S_ .f32 0x7F800000#32
  let main_v5 : FVec F S126x512 .f32 := broadcastInDim S126x512 ![] bcast_S_S126x512 main_cst_0
  let main_v6 : IVec S126x512 1 := cmpf .olt main_v4 main_v5
  let main_c_1 : IVec S_ 1 := constantI S_ 1 1#1
  let main_v7 : IVec S_ 1 := (fun x v => Host.reduce IntOp.andi x v reducesTo_S126x512_S_d0_1 h_S_) main_v6 main_c_1
  let main_v8 : IVec S_ 1 := andi main_v3 main_v7
  let main_v9 : FVec F S126x512 .f32 := Host.absf main_arg2
  let main_cst_2 : FVec F S_ .f32 := constant S_ .f32 0x7F800000#32
  let main_v10 : FVec F S126x512 .f32 := broadcastInDim S126x512 ![] bcast_S_S126x512 main_cst_2
  let main_v11 : IVec S126x512 1 := cmpf .olt main_v9 main_v10
  let main_c_3 : IVec S_ 1 := constantI S_ 1 1#1
  let main_v12 : IVec S_ 1 := (fun x v => Host.reduce IntOp.andi x v reducesTo_S126x512_S_d0_1 h_S_) main_v11 main_c_3
  let main_v13 : IVec S_ 1 := andi main_v8 main_v12
  main_v13
-- ==== Kernel.lean ====
abbrev S8192 : Shape := ⟨1, ![8192]⟩
abbrev S126x512 : Shape := ⟨2, ![126, 512]⟩
abbrev S8 : Shape := ⟨1, ![8]⟩
abbrev S_ : Shape := ⟨0, ![]⟩
abbrev S1x512 : Shape := ⟨2, ![1, 512]⟩
abbrev S128x512 : Shape := ⟨2, ![128, 512]⟩
abbrev S126x2 : Shape := ⟨2, ![126, 2]⟩
abbrev S126x126 : Shape := ⟨2, ![126, 126]⟩
abbrev S126x130 : Shape := ⟨2, ![126, 130]⟩
abbrev S126x128 : Shape := ⟨2, ![126, 128]⟩
abbrev S1x128 : Shape := ⟨2, ![1, 128]⟩
abbrev S128x128 : Shape := ⟨2, ![128, 128]⟩
abbrev S128x1024 : Shape := ⟨2, ![128, 1024]⟩
abbrev S8192x512 : Shape := ⟨2, ![8192, 512]⟩
abbrev S512 : Shape := ⟨1, ![512]⟩
abbrev S512x512 : Shape := ⟨2, ![512, 512]⟩
abbrev S512x128 : Shape := ⟨2, ![512, 128]⟩
abbrev S512x1 : Shape := ⟨2, ![512, 1]⟩
abbrev S8192x8x64 : Shape := ⟨3, ![8192, 8, 64]⟩

abbrev nBuf : Space → Nat
  | .hbm => 109
  | .vmem => 13
  | .smem => 0
  | _ => 0

abbrev bufTy : (tb : Table) → Fin (tcTables nBuf tb) → BufTy
  | .hbm, ⟨0, _⟩ => ⟨S8192, .f32⟩
  | .hbm, ⟨1, _⟩ => ⟨S126x512, .f32⟩
  | .hbm, ⟨2, _⟩ => ⟨S126x512, .f32⟩
  | .hbm, ⟨3, _⟩ => ⟨S8, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S128x512, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S128x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S126x2, .f32⟩
  | .hbm, ⟨20, _⟩ => ⟨S126x126, .i32⟩
  | .hbm, ⟨21, _⟩ => ⟨S126x126, .i32⟩
  | .hbm, ⟨22, _⟩ => ⟨S126x126, .i32⟩
  | .hbm, ⟨23, _⟩ => ⟨S_, .i32⟩
  | .hbm, ⟨24, _⟩ => ⟨S126x126, .i32⟩
  | .hbm, ⟨25, _⟩ => ⟨S126x126, .i32⟩
  | .hbm, ⟨26, _⟩ => ⟨S_, .i32⟩
  | .hbm, ⟨27, _⟩ => ⟨S126x126, .i32⟩
  | .hbm, ⟨28, _⟩ => ⟨S126x126, .i32⟩
  | .hbm, ⟨29, _⟩ => ⟨S_, .i32⟩
  | .hbm, ⟨30, _⟩ => ⟨S126x126, .i32⟩
  | .hbm, ⟨31, _⟩ => ⟨S126x126, .i32⟩
  | .hbm, ⟨32, _⟩ => ⟨S126x126, .f32⟩
  | .hbm, ⟨33, _⟩ => ⟨S126x126, .f32⟩
  | .hbm, ⟨34, _⟩ => ⟨S126x126, .f32⟩
  | .hbm, ⟨35, _⟩ => ⟨S126x126, .f32⟩
  | .hbm, ⟨36, _⟩ => ⟨S126x126, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S126x126, .f32⟩
  | .hbm, ⟨44, _⟩ => ⟨S126x126, .f32⟩
  | .hbm, ⟨45, _⟩ => ⟨S126x126, .f32⟩
  | .hbm, ⟨46, _⟩ => ⟨S126x126, .f32⟩
  | .hbm, ⟨47, _⟩ => ⟨S_, .f32⟩
  | .hbm, ⟨48, _⟩ => ⟨S126x126, .f32⟩
  | .hbm, ⟨49, _⟩ => ⟨S126x126, .f32⟩
  | .hbm, ⟨50, _⟩ => ⟨S_, .f32⟩
  | .hbm, ⟨51, _⟩ => ⟨S126x126, .f32⟩
  | .hbm, ⟨52, _⟩ => ⟨S126x126, .f32⟩
  | .hbm, ⟨53, _⟩ => ⟨S126x126, .f32⟩
  | .hbm, ⟨54, _⟩ => ⟨S126x126, .f32⟩
  | .hbm, ⟨55, _⟩ => ⟨S126x126, .f32⟩
  | .hbm, ⟨56, _⟩ => ⟨S_, .f32⟩
  | .hbm, ⟨57, _⟩ => ⟨S126x126, .f32⟩
  | .hbm, ⟨58, _⟩ => ⟨S126x126, .f32⟩
  | .hbm, ⟨59, _⟩ => ⟨S126x126, .f32⟩
  | .hbm, ⟨60, _⟩ => ⟨S_, .f32⟩
  | .hbm, ⟨61, _⟩ => ⟨S126x126, .f32⟩
  | .hbm, ⟨62, _⟩ => ⟨S126x126, .f32⟩
  | .hbm, ⟨63, _⟩ => ⟨S_, .f32⟩
  | .hbm, ⟨64, _⟩ => ⟨S126x126, .f32⟩
  | .hbm, ⟨65, _⟩ => ⟨S126x126, .f32⟩
  | .hbm, ⟨66, _⟩ => ⟨S126x126, .f32⟩
  | .hbm, ⟨67, _⟩ => ⟨S126x126, .f32⟩
  | .hbm, ⟨68, _⟩ => ⟨S126x126, .f32⟩
  | .hbm, ⟨69, _⟩ => ⟨S_, .f32⟩
  | .hbm, ⟨70, _⟩ => ⟨S126x126, .f32⟩
  | .hbm, ⟨71, _⟩ => ⟨S126x126, .f32⟩
  | .hbm, ⟨72, _⟩ => ⟨S126x126, .f32⟩
  | .hbm, ⟨73, _⟩ => ⟨S126x126, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S126x126, .f32⟩
  | .hbm, ⟨84, _⟩ => ⟨S126x126, .f32⟩
  | .hbm, ⟨85, _⟩ => ⟨S126x130, .f32⟩
  | .hbm, ⟨86, _⟩ => ⟨S_, .f32⟩
  | .hbm, ⟨87, _⟩ => ⟨S_, .f32⟩
  | .hbm, ⟨88, _⟩ => ⟨S126x128, .f32⟩
  | .hbm, ⟨89, _⟩ => ⟨S126x128, .f32⟩
  | .hbm, ⟨90, _⟩ => ⟨S_, .f32⟩
  | .hbm, ⟨91, _⟩ => ⟨S126x128, .f32⟩
  | .hbm, ⟨92, _⟩ => ⟨S126x128, .f32⟩
  | .hbm, ⟨93, _⟩ => ⟨S126x128, .f32⟩
  | .hbm, ⟨94, _⟩ => ⟨S126x128, .f32⟩
  | .hbm, ⟨95, _⟩ => ⟨S126x128, .f32⟩
  | .hbm, ⟨96, _⟩ => ⟨S126x128, .f32⟩
  | .hbm, ⟨97, _⟩ => ⟨S126x128, .f32⟩
  | .hbm, ⟨98, _⟩ => ⟨S_, .f32⟩
  | .hbm, ⟨99, _⟩ => ⟨S1x128, .f32⟩
  | .hbm, ⟨100, _⟩ => ⟨S128x128, .f32⟩
  | .hbm, ⟨101, _⟩ => ⟨S128x1024, .f32⟩
  | .hbm, ⟨102, _⟩ => ⟨S128x1024, .f32⟩
  | .hbm, ⟨103, _⟩ => ⟨S128x512, .f32⟩
  | .hbm, ⟨104, _⟩ => ⟨S128x512, .f32⟩
  | .hbm, ⟨105, _⟩ => ⟨S8192x512, .f32⟩
  | .hbm, ⟨106, _⟩ => ⟨S8192x512, .f32⟩
  | .hbm, ⟨107, _⟩ => ⟨S8192x8x64, .f32⟩
  | .hbm, ⟨108, _⟩ => ⟨S8192x8x64, .f32⟩
  | .local _ .vmem, ⟨0, _⟩ => ⟨S128x128, .f32⟩
  | .local _ .vmem, ⟨1, _⟩ => ⟨S128x1024, .f32⟩
  | .local _ .vmem, ⟨2, _⟩ => ⟨S128x1024, .f32⟩
  | .local _ .vmem, ⟨3, _⟩ => ⟨S512, .f32⟩
  | .local _ .vmem, ⟨4, _⟩ => ⟨S512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_20 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78_0 : Ref sig .tc := ⟨.hbm, 105, rfl⟩
abbrev main_v78_1 : Ref sig .tc := ⟨.hbm, 106, rfl⟩
abbrev main_v79 : Ref sig .tc := ⟨.hbm, 107, rfl⟩
abbrev main_v80 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "c1" => some ((127 / 6 : ℝ) : EReal)
  | "c2" => some ((1 / 762 : ℝ) : EReal)
  | "h" => some ((1 / 127 : ℝ) : EReal)
  | _ => none
-- ==== ReferenceIdeal.lean ====
abbrev S8192 : Shape := ⟨1, ![8192]⟩
abbrev S126x512 : Shape := ⟨2, ![126, 512]⟩
abbrev S8 : Shape := ⟨1, ![8]⟩
abbrev S_ : Shape := ⟨0, ![]⟩
abbrev S127 : Shape := ⟨1, ![127]⟩
abbrev S1 : Shape := ⟨1, ![1]⟩
abbrev S128 : Shape := ⟨1, ![128]⟩
abbrev S512 : Shape := ⟨1, ![512]⟩
abbrev S1x512 : Shape := ⟨2, ![1, 512]⟩
abbrev S128x512 : Shape := ⟨2, ![128, 512]⟩
abbrev S128x1024 : Shape := ⟨2, ![128, 1024]⟩
abbrev S126x1024 : Shape := ⟨2, ![126, 1024]⟩
abbrev S126 : Shape := ⟨1, ![126]⟩
abbrev S126x1 : Shape := ⟨2, ![126, 1]⟩
abbrev S125 : Shape := ⟨1, ![125]⟩
abbrev S126x126 : Shape := ⟨2, ![126, 126]⟩
abbrev S126x1150 : Shape := ⟨2, ![126, 1150]⟩
abbrev S1x1150 : Shape := ⟨2, ![1, 1150]⟩
abbrev S1x1 : Shape := ⟨2, ![1, 1]⟩
abbrev S1x1024 : Shape := ⟨2, ![1, 1024]⟩
abbrev S1x128 : Shape := ⟨2, ![1, 128]⟩
abbrev S8192x1 : Shape := ⟨2, ![8192, 1]⟩
abbrev S8192x128 : Shape := ⟨2, ![8192, 128]⟩
abbrev S8192x1024 : Shape := ⟨2, ![8192, 1024]⟩
abbrev S8192x512 : Shape := ⟨2, ![8192, 512]⟩
abbrev S8192x8x64 : Shape := ⟨3, ![8192, 8, 64]⟩

abbrev nBuf : Space → Nat
  | .hbm => 235
  | .vmem => 0
  | .smem => 0
  | _ => 0

abbrev hbmTy0_0 (i : Nat) : BufTy := match i % 128 with
  | 0 => ⟨S8192, .f32⟩
  | 1 => ⟨S126x512, .f32⟩
  | 2 => ⟨S126x512, .f32⟩
  | 3 => ⟨S8, .f32⟩
  | 4 => ⟨S_, .f32⟩
  | 5 => ⟨S8192, .f32⟩
  | 6 => ⟨S8192, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S127, .f32⟩
  | 15 => ⟨S_, .f32⟩
  | 16 => ⟨S127, .f32⟩
  | 17 => ⟨S127, .f32⟩
  | 18 => ⟨S1, .f32⟩
  | 19 => ⟨S_, .f32⟩
  | 20 => ⟨S127, .f32⟩
  | 21 => ⟨S127, .f32⟩
  | 22 => ⟨S127, .f32⟩
  | 23 => ⟨S127, .f32⟩
  | 24 => ⟨S1, .f32⟩
  | 25 => ⟨S127, .f32⟩
  | 26 => ⟨S127, .f32⟩
  | 27 => ⟨S127, .f32⟩
  | 28 => ⟨S1, .f32⟩
  | 29 => ⟨S128, .f32⟩
  | 30 => ⟨S_, .f32⟩
  | 31 => ⟨S512, .f32⟩
  | 32 => ⟨S_, .f32⟩
  | 33 => ⟨S512, .f32⟩
  | 34 => ⟨S512, .f32⟩
  | 35 => ⟨S_, .f32⟩
  | 36 => ⟨S512, .f32⟩
  | 37 => ⟨S_, .f32⟩
  | 38 => ⟨S512, .f32⟩
  | 39 => ⟨S_, .f32⟩
  | 40 => ⟨S512, .f32⟩
  | 41 => ⟨S512, .f32⟩
  | 42 => ⟨S512, .f32⟩
  | 43 => ⟨S1x512, .f32⟩
  | 44 => ⟨S1x512, .f32⟩
  | 45 => ⟨S128x512, .f32⟩
  | 46 => ⟨S1x512, .f32⟩
  | 47 => ⟨S1x512, .f32⟩
  | 48 => ⟨S128x512, .f32⟩
  | 49 => ⟨S128x1024, .f32⟩
  | 50 => ⟨S127, .f32⟩
  | 51 => ⟨S127, .f32⟩
  | 52 => ⟨S127, .f32⟩
  | 53 => ⟨S126x1024, .f32⟩
  | 54 => ⟨S126x1024, .f32⟩
  | 55 => ⟨S126x1024, .f32⟩
  | 56 => ⟨S126, .f32⟩
  | 57 => ⟨S126x1, .f32⟩
  | 58 => ⟨S126x1024, .f32⟩
  | 59 => ⟨S126x1024, .f32⟩
  | 60 => ⟨S126x1024, .f32⟩
  | 61 => ⟨S126x1024, .f32⟩
  | 62 => ⟨S126x1024, .f32⟩
  | 63 => ⟨S126, .f32⟩
  | 64 => ⟨S126x1, .f32⟩
  | 65 => ⟨S126x1024, .f32⟩
  | 66 => ⟨S126x1024, .f32⟩
  | 67 => ⟨S126x1024, .f32⟩
  | 68 => ⟨S_, .f32⟩
  | 69 => ⟨S126x1024, .f32⟩
  | 70 => ⟨S126x1024, .f32⟩
  | 71 => ⟨S126, .f32⟩
  | 72 => ⟨S126, .f32⟩
  | 73 => ⟨S126, .f32⟩
  | 74 => ⟨S_, .f32⟩
  | 75 => ⟨S126, .f32⟩
  | 76 => ⟨S126, .f32⟩
  | 77 => ⟨S125, .f32⟩
  | 78 => ⟨S_, .f32⟩
  | 79 => ⟨S126, .f32⟩
  | 80 => ⟨S126x126, .i32⟩
  | 81 => ⟨S126x126, .i32⟩
  | 82 => ⟨S_, .i32⟩
  | 83 => ⟨S126x126, .i32⟩
  | 84 => ⟨S126x126, .i32⟩
  | 85 => ⟨S126x126, .i1⟩
  | 86 => ⟨S126x1, .f32⟩
  | 87 => ⟨S_, .f32⟩
  | 88 => ⟨S126x126, .f32⟩
  | 89 => ⟨S126x126, .f32⟩
  | 90 => ⟨S126x126, .f32⟩
  | 91 => ⟨S_, .f32⟩
  | 92 => ⟨S126, .f32⟩
  | 93 => ⟨S126x126, .i32⟩
  | 94 => ⟨S126x126, .i32⟩
  | 95 => ⟨S_, .i32⟩
  | 96 => ⟨S126x126, .i32⟩
  | 97 => ⟨S126x126, .i32⟩
  | 98 => ⟨S126x126, .i1⟩
  | 99 => ⟨S126x1, .f32⟩
  | 100 => ⟨S_, .f32⟩
  | 101 => ⟨S126x126, .f32⟩
  | 102 => ⟨S126x126, .f32⟩
  | 103 => ⟨S126x126, .f32⟩
  | 104 => ⟨S126x126, .f32⟩
  | 105 => ⟨S_, .f32⟩
  | 106 => ⟨S126, .f32⟩
  | 107 => ⟨S126x126, .i32⟩
  | 108 => ⟨S126x126, .i32⟩
  | 109 => ⟨S_, .i32⟩
  | 110 => ⟨S126x126, .i32⟩
  | 111 => ⟨S126x126, .i32⟩
  | 112 => ⟨S126x126, .i1⟩
  | 113 => ⟨S126x1, .f32⟩
  | 114 => ⟨S_, .f32⟩
  | 115 => ⟨S126x126, .f32⟩
  | 116 => ⟨S126x126, .f32⟩
  | 117 => ⟨S126x126, .f32⟩
  | 118 => ⟨S126x126, .f32⟩
  | 119 => ⟨S126x1150, .f32⟩
  | 120 => ⟨S_, .i32⟩
  | 121 => ⟨S_, .i32⟩
  | 122 => ⟨S_, .i32⟩
  | 123 => ⟨S_, .i32⟩
  | 124 => ⟨S126x1150, .f32⟩
  | 125 => ⟨S_, .i32⟩
  | 126 => ⟨S_, .i1⟩
  | 127 => ⟨S_, .i32⟩
  | _ => ⟨S8192, .f32⟩

abbrev hbmTy0_1 (i : Nat) : BufTy := match i % 128 with
  | 0 => ⟨S_, .i32⟩
  | 1 => ⟨S_, .i32⟩
  | 2 => ⟨S1x1150, .f32⟩
  | 3 => ⟨S1x1, .f32⟩
  | 4 => ⟨S1x1150, .f32⟩
  | 5 => ⟨S1x1150, .f32⟩
  | 6 => ⟨S_, .i32⟩
  | 7 => ⟨S126x1, .f32⟩
  | 8 => ⟨S126x1150, .f32⟩
  | 9 => ⟨S126x1150, .f32⟩
  | 10 => ⟨S126x1150, .f32⟩
  | 11 => ⟨S126x1150, .f32⟩
  | 12 => ⟨S_, .i32⟩
  | 13 => ⟨S126x1150, .f32⟩
  | 14 => ⟨S_, .i32⟩
  | 15 => ⟨S_, .i32⟩
  | 16 => ⟨S126x1024, .f32⟩
  | 17 => ⟨S_, .f32⟩
  | 18 => ⟨S1x1024, .f32⟩
  | 19 => ⟨S128x1024, .f32⟩
  | 20 => ⟨S1x128, .f32⟩
  | 21 => ⟨S8192x1, .f32⟩
  | 22 => ⟨S8192x128, .f32⟩
  | 23 => ⟨S8192x128, .f32⟩
  | 24 => ⟨S8192x128, .i1⟩
  | 25 => ⟨S8192x128, .i32⟩
  | 26 => ⟨S_, .i32⟩
  | 27 => ⟨S8192, .i32⟩
  | 28 => ⟨S_, .i32⟩
  | 29 => ⟨S8192, .i32⟩
  | 30 => ⟨S8192, .i32⟩
  | 31 => ⟨S_, .i32⟩
  | 32 => ⟨S_, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192x1, .i32⟩
  | 40 => ⟨S8192, .f32⟩
  | 41 => ⟨S_, .i32⟩
  | 42 => ⟨S8192, .i32⟩
  | 43 => ⟨S8192, .i32⟩
  | 44 => ⟨S8192x1, .i32⟩
  | 45 => ⟨S8192, .f32⟩
  | 46 => ⟨S8192, .f32⟩
  | 47 => ⟨S8192x1, .f32⟩
  | 48 => ⟨S8192x1, .i32⟩
  | 49 => ⟨S8192x1024, .f32⟩
  | 50 => ⟨S_, .i32⟩
  | 51 => ⟨S8192, .i32⟩
  | 52 => ⟨S8192, .i32⟩
  | 53 => ⟨S8192x1, .i32⟩
  | 54 => ⟨S8192x1024, .f32⟩
  | 55 => ⟨S8192x1, .i32⟩
  | 56 => ⟨S8192x1024, .f32⟩
  | 57 => ⟨S_, .i32⟩
  | 58 => ⟨S8192, .i32⟩
  | 59 => ⟨S8192, .i32⟩
  | 60 => ⟨S8192x1, .i32⟩
  | 61 => ⟨S8192x1024, .f32⟩
  | 62 => ⟨S8192, .f32⟩
  | 63 => ⟨S8192x1, .f32⟩
  | 64 => ⟨S8192, .f32⟩
  | 65 => ⟨S8192x1, .f32⟩
  | 66 => ⟨S8192x1, .f32⟩
  | 67 => ⟨S8192x1, .f32⟩
  | 68 => ⟨S8192x1024, .f32⟩
  | 69 => ⟨S8192x1024, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S_, .f32⟩
  | 76 => ⟨S8192x1, .f32⟩
  | 77 => ⟨S8192x1, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x512, .f32⟩
  | 103 => ⟨S8192x8x64, .f32⟩
  | 104 => ⟨S8192x512, .f32⟩
  | 105 => ⟨S8192x8x64, .f32⟩
  | 106 => ⟨S8192x8x64, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v2 : Ref sig .tc := ⟨.hbm, 29, rfl⟩
abbrev main_cst_2 : Ref sig .tc := ⟨.hbm, 30, rfl⟩
abbrev main_v3 : Ref sig .tc := ⟨.hbm, 31, rfl⟩
abbrev main_cst_3 : Ref sig .tc := ⟨.hbm, 32, rfl⟩
abbrev main_v4 : Ref sig .tc := ⟨.hbm, 33, rfl⟩
abbrev main_v5 : Ref sig .tc := ⟨.hbm, 34, rfl⟩
abbrev main_cst_4 : Ref sig .tc := ⟨.hbm, 35, rfl⟩
abbrev main_v6 : Ref sig .tc := ⟨.hbm, 36, rfl⟩
abbrev main_cst_5 : Ref sig .tc := ⟨.hbm, 37, rfl⟩
abbrev main_v7 : Ref sig .tc := ⟨.hbm, 38, rfl⟩
abbrev main_cst_6 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call1_v0 : Ref sig .tc := ⟨.hbm, 50, rfl⟩
abbrev main_call1_v1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_8 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_c : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_0 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v42 : Ref sig .tc := ⟨.hbm, 90, rfl⟩
abbrev main_call3_cst : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_c : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_cst_0 : Ref sig .tc := ⟨.hbm, 100, rfl⟩
abbrev main_call3_call0_v0 : Ref sig .tc := ⟨.hbm, 101, rfl⟩
abbrev main_call3_call0_v1 : Ref sig .tc := ⟨.hbm, 102, rfl⟩
abbrev main_v43 : Ref sig .tc := ⟨.hbm, 103, rfl⟩
abbrev main_v44 : Ref sig .tc := ⟨.hbm, 104, rfl⟩
abbrev main_call4_cst : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_c : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_v6 : Ref sig .tc := ⟨.hbm, 113, rfl⟩
abbrev main_call4_cst_0 : Ref sig .tc := ⟨.hbm, 114, rfl⟩
abbrev main_call4_call0_v0 : Ref sig .tc := ⟨.hbm, 115, rfl⟩
abbrev main_call4_call0_v1 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_c : Ref sig .tc := ⟨.hbm, 120, rfl⟩
abbrev main_c_9 : Ref sig .tc := ⟨.hbm, 121, rfl⟩
abbrev main_v48_0 : Ref sig .tc := ⟨.hbm, 122, rfl⟩
abbrev main_v48_1 : Ref sig .tc := ⟨.hbm, 123, rfl⟩
abbrev main_v48_2 : Ref sig .tc := ⟨.hbm, 124, rfl⟩
abbrev main_while0c_c_23 : Ref sig .tc := ⟨.hbm, 125, rfl⟩
abbrev main_while0c_v118 : Ref sig .tc := ⟨.hbm, 126, rfl⟩
abbrev main_while0b_c_23 : Ref sig .tc := ⟨.hbm, 127, rfl⟩
abbrev main_while0b_v118 : Ref sig .tc := ⟨.hbm, 128, rfl⟩
abbrev main_while0b_c_24 : Ref sig .tc := ⟨.hbm, 129, rfl⟩
abbrev main_while0b_v119 : Ref sig .tc := ⟨.hbm, 130, rfl⟩
abbrev main_while0b_v120 : Ref sig .tc := ⟨.hbm, 131, rfl⟩
abbrev main_while0b_v121 : Ref sig .tc := ⟨.hbm, 132, rfl⟩
abbrev main_while0b_v122 : Ref sig .tc := ⟨.hbm, 133, rfl⟩
abbrev main_while0b_c_25 : Ref sig .tc := ⟨.hbm, 134, rfl⟩
abbrev main_while0b_v123 : Ref sig .tc := ⟨.hbm, 135, rfl⟩
abbrev main_while0b_v124 : Ref sig .tc := ⟨.hbm, 136, rfl⟩
abbrev main_while0b_v125 : Ref sig .tc := ⟨.hbm, 137, rfl⟩
abbrev main_while0b_v126 : Ref sig .tc := ⟨.hbm, 138, rfl⟩
abbrev main_while0b_v127 : Ref sig .tc := ⟨.hbm, 139, rfl⟩
abbrev main_while0b_c_26 : Ref sig .tc := ⟨.hbm, 140, rfl⟩
abbrev main_while0b_v128 : Ref sig .tc := ⟨.hbm, 141, rfl⟩
abbrev main_while0b_c_27 : Ref sig .tc := ⟨.hbm, 142, rfl⟩
abbrev main_while0b_v129 : Ref sig .tc := ⟨.hbm, 143, rfl⟩
abbrev main_v49 : Ref sig .tc := ⟨.hbm, 144, rfl⟩
abbrev main_cst_10 : Ref sig .tc := ⟨.hbm, 145, rfl⟩
abbrev main_v50 : Ref sig .tc := ⟨.hbm, 146, rfl⟩
abbrev main_v51 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_c_11 : Ref sig .tc := ⟨.hbm, 154, rfl⟩
abbrev main_v58 : Ref sig .tc := ⟨.hbm, 155, rfl⟩
abbrev main_c_12 : Ref sig .tc := ⟨.hbm, 156, rfl⟩
abbrev main_v59 : Ref sig .tc := ⟨.hbm, 157, rfl⟩
abbrev main_v60 : Ref sig .tc := ⟨.hbm, 158, rfl⟩
abbrev main_c_13 : Ref sig .tc := ⟨.hbm, 159, rfl⟩
abbrev main_c_14 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v61 : Ref sig .tc := ⟨.hbm, 166, rfl⟩
abbrev main_call6_v0 : Ref sig .tc := ⟨.hbm, 167, rfl⟩
abbrev main_v62 : Ref sig .tc := ⟨.hbm, 168, rfl⟩
abbrev main_c_15 : Ref sig .tc := ⟨.hbm, 169, rfl⟩
abbrev main_v63 : Ref sig .tc := ⟨.hbm, 170, rfl⟩
abbrev main_v64 : Ref sig .tc := ⟨.hbm, 171, rfl⟩
abbrev main_call7_v0 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_call8_v0 : Ref sig .tc := ⟨.hbm, 176, rfl⟩
abbrev main_v68 : Ref sig .tc := ⟨.hbm, 177, rfl⟩
abbrev main_c_16 : Ref sig .tc := ⟨.hbm, 178, rfl⟩
abbrev main_v69 : Ref sig .tc := ⟨.hbm, 179, rfl⟩
abbrev main_v70 : Ref sig .tc := ⟨.hbm, 180, rfl⟩
abbrev main_call9_v0 : Ref sig .tc := ⟨.hbm, 181, rfl⟩
abbrev main_v71 : Ref sig .tc := ⟨.hbm, 182, rfl⟩
abbrev main_call10_v0 : Ref sig .tc := ⟨.hbm, 183, rfl⟩
abbrev main_v72 : Ref sig .tc := ⟨.hbm, 184, rfl⟩
abbrev main_c_17 : Ref sig .tc := ⟨.hbm, 185, rfl⟩
abbrev main_v73 : Ref sig .tc := ⟨.hbm, 186, rfl⟩
abbrev main_v74 : Ref sig .tc := ⟨.hbm, 187, rfl⟩
abbrev main_call11_v0 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_cst_18 : Ref sig .tc := ⟨.hbm, 203, rfl⟩
abbrev main_v89 : Ref sig .tc := ⟨.hbm, 204, rfl⟩
abbrev main_v90 : Ref sig .tc := ⟨.hbm, 205, rfl⟩
abbrev main_v91 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_cst_19 : Ref sig .tc := ⟨.hbm, 212, rfl⟩
abbrev main_v97 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_cst_20 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩

abbrev nD : Nat := 1
abbrev τ : Topo := Topo.v7x

variable {F : FTy → Type} [FloatOps F]

abbrev main_while0_count : Scf.Loop 32 := ⟨0#32, 126#32, 1#32⟩
-- ==== Proof.KRun.lean ====
/-
  The kernel's run: every buffer that lives to the end is left as the last boundary has it.
-/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]
variable (m : (ℓ : Loc nD τ sig) → Buf (Elt F) ℓ) (ρ : Dev nD → PrngReg)

-- the launch's implicit arguments are found by unifying its conclusion with this one
set_option backward.isDefEq.respectTransparency.types false in
/-- Every execution ends, and leaves each buffer of the TensorCore that is not scoped as the last boundary has it. -/
theorem run_ends : θ_run defs (onTc (τ := τ) (main (F := F))) ⟨m, fun _ => 0, ρ⟩ (fun r =>
    ∀ c : Dev nD, ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

end Cert.KernelIdeal.Value

end
-- ==== Proof.Tridiag.lean ====
/-
  The mathematics of the spline's second derivatives, over the real numbers and over natural-number indices:
  the closed form of the inverse of the tridiagonal matrix, the table it gives, and Gauss–Jordan elimination.
-/
module

public import Mathlib.Tactic.LinearCombination
public import Mathlib.Tactic.FieldSimp
public import Mathlib.Tactic.Positivity
public import Mathlib.Analysis.Real.Sqrt
public import Mathlib.Analysis.SpecialFunctions.Log.Basic
public import Mathlib.Algebra.BigOperators.Intervals

@[expose] public section

noncomputable section

namespace Cert.Spline

/-! ## The inverse of tridiag(1, 4, 1) -/

/-- The root `√3 - 2` of `x² + 4 x + 1`. -/
def rho : ℝ := Real.sqrt 3 - 2

/-- The equation of the root. -/
theorem rho_sq : rho ^ 2 = -4 * rho - 1 := by
  have h : Real.sqrt 3 ^ 2 = 3 := Real.sq_sqrt (by norm_num)
  unfold rho; nlinarith

/-- The root is negative. -/
theorem rho_neg : rho < 0 := by
  have h : Real.sqrt 3 < 2 := by rw [Real.sqrt_lt' (by norm_num)]; norm_num
  unfold rho; linarith

/-- The root is greater than -1. -/
theorem rho_gt : -1 < rho := by
  have h : 1 < Real.sqrt 3 := by rw [Real.lt_sqrt (by norm_num)]; norm_num
  unfold rho; linarith

/-- Its power in the denominator is less than one. -/
theorem rho_pow_lt_one : rho ^ 254 < 1 := by
  have h : rho ^ 254 = (rho ^ 2) ^ 127 := by rw [← pow_mul]
  rw [h]
  refine pow_lt_one₀ (sq_nonneg _) ?_ (by norm_num)
  nlinarith [rho_neg, rho_gt]

/-- The common denominator is not zero. -/
theorem den_ne : 2 * Real.sqrt 3 * (1 - rho ^ 254) ≠ 0 := by
  have h : 0 < Real.sqrt 3 := Real.sqrt_pos.2 (by norm_num)
  have := rho_pow_lt_one
  exact mul_ne_zero (by positivity) (by linarith)

/-- The numerator of the inverse's entry, with both indices counted from one. -/
def qnum (i j : ℕ) : ℝ :=
  rho ^ (max i j - min i j) * (1 - rho ^ (2 * min i j)) * (1 - rho ^ (2 * (127 - max i j)))

/-- The inverse of the 126 × 126 matrix tridiag(1, 4, 1), its indices counted from one. -/
def q (i j : ℕ) : ℝ := qnum i j / (2 * Real.sqrt 3 * (1 - rho ^ 254))

/-- The numerator vanishes at the row before the first. -/
theorem qnum_zero_left (j : ℕ) : qnum 0 j = 0 := by simp [qnum]

/-- The numerator vanishes at the row after the last. -/
theorem qnum_last_left {j : ℕ} (hj : j ≤ 127) : qnum 127 j = 0 := by
  simp [qnum, hj]

/-- Rows i, i + 1, i + 2 of the numerator, weighted 1, 4, 1: the denominator on the diagonal, zero off it. -/
theorem qnum_rec {i j : ℕ} (hi : i + 1 ≤ 126) (hj0 : 1 ≤ j) (hj : j ≤ 126) :
    qnum i j + 4 * qnum (i + 1) j + qnum (i + 2) j
      = if i + 1 = j then (2 * Real.sqrt 3) * (1 - rho ^ 254) else 0 := by
  have hr := rho_sq
  rcases lt_trichotomy (i + 1) j with h | h | h
  · obtain ⟨d, rfl⟩ : ∃ d, j = i + 2 + d := ⟨j - (i + 2), by omega⟩
    rw [if_neg (by omega)]
    have e : ∀ a, a ≤ i + 2 → qnum a (i + 2 + d)
        = rho ^ (i + 2 + d - a) * (1 - rho ^ (2 * a)) * (1 - rho ^ (2 * (127 - (i + 2 + d)))) := by
      intro a ha
      unfold qnum
      rw [max_eq_right (by omega), min_eq_left (by omega)]
    rw [e i (by omega), e (i + 1) (by omega), e (i + 2) le_rfl,
      show i + 2 + d - i = d + 2 by omega, show i + 2 + d - (i + 1) = d + 1 by omega,
      show i + 2 + d - (i + 2) = d by omega, show 2 * (i + 1) = 2 * i + 2 by ring,
      show 2 * (i + 2) = 2 * i + 2 + 2 by ring]
    simp only [pow_add, pow_one]
    generalize rho ^ (2 * (127 - (i + 2 + d))) = w
    generalize rho ^ d = x
    generalize rho ^ (2 * i) = u
    rw [hr]
    ring
  · subst h
    rw [if_pos rfl]
    obtain ⟨k, hk⟩ : ∃ k, 127 - (i + 2) = k := ⟨_, rfl⟩
    have e0 : qnum i (i + 1) = rho * (1 - rho ^ (2 * i)) * (1 - rho ^ (2 * k + 2)) := by
      unfold qnum
      rw [max_eq_right (by omega), min_eq_left (by omega), show i + 1 - i = 1 by omega,
        show 2 * (127 - (i + 1)) = 2 * k + 2 by omega, pow_one]
    have e1 : qnum (i + 1) (i + 1) = (1 - rho ^ (2 * i + 2)) * (1 - rho ^ (2 * k + 2)) := by
      unfold qnum
      rw [max_self, min_self, show i + 1 - (i + 1) = 0 by omega,
        show 2 * (127 - (i + 1)) = 2 * k + 2 by omega, show 2 * (i + 1) = 2 * i + 2 by ring]
      ring
    have e2 : qnum (i + 2) (i + 1) = rho * (1 - rho ^ (2 * i + 2)) * (1 - rho ^ (2 * k)) := by
      unfold qnum
      rw [max_eq_left (by omega), min_eq_right (by omega), show i + 2 - (i + 1) = 1 by omega,
        show 2 * (127 - (i + 2)) = 2 * k by omega, pow_one, show 2 * (i + 1) = 2 * i + 2 by ring]
    rw [e0, e1, e2, show (254 : ℕ) = (2 * i + 2) + (2 * k + 2) by omega]
    have hs : Real.sqrt 3 = rho + 2 := by unfold rho; ring
    rw [hs]
    simp only [pow_add]
    generalize rho ^ (2 * i) = u
    generalize rho ^ (2 * k) = v
    linear_combination (-rho * u - rho * v + 2 * rho ^ 3 * u * v) * hr
  · obtain ⟨d, rfl⟩ : ∃ d, i = j + d := ⟨i - j, by omega⟩
    rw [if_neg (by omega)]
    obtain ⟨k, hk⟩ : ∃ k, 127 - (j + d + 2) = k := ⟨_, rfl⟩
    have e : ∀ a b, a = j + b → qnum a j
        = rho ^ b * (1 - rho ^ (2 * j)) * (1 - rho ^ (2 * (127 - a))) := by
      intro a b ha
      unfold qnum
      rw [max_eq_left (by omega), min_eq_right (by omega), show a - j = b by omega]
    rw [e (j + d) d rfl, e (j + d + 1) (d + 1) (by omega), e (j + d + 2) (d + 2) (by omega),
      show 2 * (127 - (j + d)) = 2 * k + 2 + 2 by omega, show 2 * (127 - (j + d + 1)) = 2 * k + 2 by omega,
      show 2 * (127 - (j + d + 2)) = 2 * k by omega]
    simp only [pow_add, pow_one]
    generalize rho ^ (2 * j) = w
    generalize rho ^ d = x
    generalize rho ^ (2 * k) = u
    linear_combination (x - x * w + x * w * u * rho ^ 2 - x * u * rho ^ 2) * hr

/-- The closed form is the inverse of tridiag(1, 4, 1). -/
theorem q_rec {i j : ℕ} (hi : i + 1 ≤ 126) (hj0 : 1 ≤ j) (hj : j ≤ 126) :
    q i j + 4 * q (i + 1) j + q (i + 2) j = if i + 1 = j then 1 else 0 := by
  have h := qnum_rec hi hj0 hj
  have hd := den_ne
  unfold q
  rw [mul_div_assoc', ← add_div, ← add_div, h]
  split_ifs
  · exact div_self hd
  · exact zero_div _

/-! ## The table of second derivatives -/

/-- The inverse between two columns of zeros on either side. -/
def qpad (i c : ℕ) : ℝ := if 2 ≤ c ∧ c < 128 then q i (c - 1) else 0

/-- The matrix that takes a channel's values to its second derivatives. -/
def P (i l : ℕ) : ℝ := 6 * 127 * 127 * (qpad i (l + 2) - 2 * qpad i (l + 1) + qpad i l)

/-- A channel's second derivatives. -/
def mtab (y : ℕ → ℝ) (i : ℕ) : ℝ := ∑ l ∈ Finset.range 128, P i l * y l

/-- The row before the first is zero. -/
theorem qpad_zero (c : ℕ) : qpad 0 c = 0 := by
  unfold qpad q; rw [qnum_zero_left]; simp

/-- The row after the last is zero. -/
theorem qpad_last (c : ℕ) : qpad 127 c = 0 := by
  unfold qpad
  split_ifs with h
  · unfold q; rw [qnum_last_left (by omega)]; simp
  · rfl

/-- The first row of the matrix is zero. -/
theorem P_zero (l : ℕ) : P 0 l = 0 := by simp [P, qpad_zero]

/-- The last row of the matrix is zero. -/
theorem P_last (l : ℕ) : P 127 l = 0 := by simp [P, qpad_last]

/-- The second derivative at the first knot is zero. -/
theorem mtab_zero (y : ℕ → ℝ) : mtab y 0 = 0 := by simp [mtab, P_zero]

/-- The second derivative at the last knot is zero. -/
theorem mtab_last (y : ℕ → ℝ) : mtab y 127 = 0 := by simp [mtab, P_last]

/-- The padded inverse, weighted 1, 4, 1 along a column, is the identity. -/
theorem qpad_rec {i : ℕ} (c : ℕ) (hi : i + 1 ≤ 126) :
    qpad i c + 4 * qpad (i + 1) c + qpad (i + 2) c = if i + 2 = c then 1 else 0 := by
  unfold qpad
  by_cases h : 2 ≤ c ∧ c < 128
  · rw [if_pos h, if_pos h, if_pos h, q_rec hi (by omega) (by omega)]
    exact if_congr (by omega) rfl rfl
  · rw [if_neg h, if_neg h, if_neg h, if_neg (by omega)]
    ring

/-- The matrix, weighted 1, 4, 1 along a column, is the second difference. -/
theorem P_rec {i : ℕ} (l : ℕ) (hi : i + 1 ≤ 126) :
    P i l + 4 * P (i + 1) l + P (i + 2) l
      = 6 * 127 * 127 * ((if i = l then 1 else 0) - 2 * (if i + 1 = l then 1 else 0) + (if i + 2 = l then 1 else 0)) := by
  have h0 := qpad_rec l hi
  have h1 := qpad_rec (l + 1) hi
  have h2 := qpad_rec (l + 2) hi
  rw [show (if i + 2 = l + 1 then (1 : ℝ) else 0) = if i + 1 = l then 1 else 0 from if_congr (by omega) rfl rfl] at h1
  rw [show (if i + 2 = l + 2 then (1 : ℝ) else 0) = if i = l then 1 else 0 from if_congr (by omega) rfl rfl] at h2
  unfold P
  linear_combination 6 * 127 * 127 * (h2 - 2 * h1 + h0)

/-- The table solves the spline's equations. -/
theorem mtab_rec (y : ℕ → ℝ) {i : ℕ} (hi : i + 1 ≤ 126) :
    mtab y i + 4 * mtab y (i + 1) + mtab y (i + 2) = 6 * 127 * 127 * (y i - 2 * y (i + 1) + y (i + 2)) := by
  have e : ∀ a, a < 128 → ∑ l ∈ Finset.range 128, (if a = l then (1 : ℝ) else 0) * y l = y a := by
    intro a ha
    simp only [ite_mul, one_mul, zero_mul]
    rw [Finset.sum_ite_eq, if_pos (Finset.mem_range.2 ha)]
  unfold mtab
  rw [Finset.mul_sum, ← Finset.sum_add_distrib, ← Finset.sum_add_distrib]
  rw [← e i (by omega), ← e (i + 1) (by omega), ← e (i + 2) (by omega), Finset.mul_sum, ← Finset.sum_sub_distrib,
    ← Finset.sum_add_distrib, Finset.mul_sum]
  refine Finset.sum_congr rfl fun l _ => ?_
  linear_combination y l * P_rec l hi

/-! ## Gauss–Jordan elimination -/

/-- One step: row `k` is divided by its pivot and taken off every other row. -/
def gjStep (k : ℕ) (W : ℕ → ℕ → ℝ) (i j : ℕ) : ℝ :=
  if i = k then W k j / W k k else W i j - W i k * (W k j / W k k)

/-- The matrix after `k` steps. -/
def gj (W : ℕ → ℕ → ℝ) : ℕ → ℕ → ℕ → ℝ
  | 0 => W
  | k + 1 => gjStep k (gj W k)

/-- The matrix tridiag(1, 4, 1). -/
def tri (i j : ℕ) : ℝ := if i = j then 4 else if i + 1 = j ∨ j + 1 = i then 1 else 0

/-- The pivots met. -/
def piv : ℕ → ℝ
  | 0 => 4
  | k + 1 => 4 - 1 / piv k

/-- The pivots are at least three. -/
theorem piv_ge (k : ℕ) : 3 ≤ piv k := by
  induction k with
  | zero => norm_num [piv]
  | succ k ih =>
    have : 1 / piv k ≤ 1 := by rw [div_le_one (by linarith)]; linarith
    simp only [piv]; linarith

/-- The pivots are not zero. -/
theorem piv_ne (k : ℕ) : piv k ≠ 0 := by have := piv_ge k; linarith

/-- What the elimination has made of a multiple of tridiag(1, 4, 1) after `k` steps: the first `k` columns are the
    identity's, and below them only the next pivot has changed. -/
structure Reduced (h : ℝ) (k : ℕ) (W : ℕ → ℕ → ℝ) : Prop where
  done : ∀ i j, i < 126 → j < k → W i j = if i = j then 1 else 0
  rest : ∀ i j, k ≤ i → i < 126 → k ≤ j → j < 126 → W i j = h * if i = k ∧ j = k then piv k else tri i j

/-- The pivot of the next step. -/
theorem Reduced.pivot {h : ℝ} {k : ℕ} {W : ℕ → ℕ → ℝ} (R : Reduced h k W) (hk : k < 126) : W k k = h * piv k := by
  rw [R.rest k k le_rfl hk le_rfl hk, if_pos ⟨rfl, rfl⟩]

/-- One step keeps the shape, with one more column eliminated. -/
theorem Reduced.step {h : ℝ} {k : ℕ} {W : ℕ → ℕ → ℝ} (hh : h ≠ 0) (R : Reduced h k W) (hk : k < 126) :
    Reduced h (k + 1) (gjStep k W) := by
  have hp := piv_ne k
  have hpk := R.pivot hk
  have hne : W k k ≠ 0 := by rw [hpk]; exact mul_ne_zero hh hp
  constructor
  · intro i j hi hj
    unfold gjStep
    rcases Nat.lt_succ_iff_lt_or_eq.1 hj with hj | rfl
    · have hz : W k j = 0 := by rw [R.done k j hk hj, if_neg (by omega)]
      rw [hz]
      split_ifs with h1 h2 h2
      · omega
      · simp
      · rw [R.done i j hi hj, if_pos h2]; simp
      · rw [R.done i j hi hj, if_neg h2]; simp
    · rw [div_self hne]
      split_ifs <;> simp
  · intro i j hi hi' hj hj'
    unfold gjStep
    rw [if_neg (by omega), hpk, R.rest i j (by omega) hi' (by omega) hj', R.rest i k (by omega) hi' le_rfl hk,
      R.rest k j le_rfl hk (by omega) hj', if_neg (by omega), if_neg (by omega), if_neg (by omega)]
    by_cases h1 : i = k + 1
    · by_cases h2 : j = k + 1
      · subst h1 h2
        rw [if_pos ⟨rfl, rfl⟩]
        have t0 : tri (k + 1) (k + 1) = 4 := by simp [tri]
        have t1 : tri (k + 1) k = 1 := by unfold tri; rw [if_neg (by omega), if_pos (by omega)]
        have t2 : tri k (k + 1) = 1 := by unfold tri; rw [if_neg (by omega), if_pos (by omega)]
        rw [t0, t1, t2]
        simp only [piv]
        field_simp
      · rw [if_neg (by omega)]
        have : tri k j = 0 := by unfold tri; rw [if_neg (by omega), if_neg (by omega)]
        rw [this]; simp
    · rw [if_neg (by omega)]
      have : tri i k = 0 := by unfold tri; rw [if_neg (by omega), if_neg (by omega)]
      rw [this]; simp

/-- The shape holds after every step. -/
theorem gj_reduced {h : ℝ} (hh : h ≠ 0) {W : ℕ → ℕ → ℝ} (hW : ∀ i j, i < 126 → j < 126 → W i j = h * tri i j) :
    ∀ k, k ≤ 126 → Reduced h k (gj W k)
  | 0, _ => by
    refine ⟨fun i j _ hj => absurd hj (by omega), fun i j _ hi _ hj => ?_⟩
    show W i j = _
    rw [hW i j hi hj]
    split_ifs with h1
    · rw [h1.1, h1.2]; simp [tri, piv]
    · rfl
  | k + 1, hk => (gj_reduced hh hW k (by omega)).step hh (by omega)

/-- No pivot is zero. -/
theorem gj_pivot_ne {h : ℝ} (hh : h ≠ 0) {W : ℕ → ℕ → ℝ} (hW : ∀ i j, i < 126 → j < 126 → W i j = h * tri i j)
    {k : ℕ} (hk : k < 126) : gj W k k k ≠ 0 := by
  rw [(gj_reduced hh hW k hk.le).pivot hk]
  exact mul_ne_zero hh (piv_ne k)

/-- A solution of the equations stays one at every step. -/
theorem gj_keeps {W : ℕ → ℕ → ℝ} {X : ℕ → ℝ} {b : ℕ}
    (hX : ∀ i, i < 126 → ∑ j ∈ Finset.range 126, W i j * X j = W i b) :
    ∀ k, k ≤ 126 → ∀ i, i < 126 → ∑ j ∈ Finset.range 126, gj W k i j * X j = gj W k i b
  | 0, _ => hX
  | k + 1, hk => by
    intro i hi
    have ih := gj_keeps hX k (by omega)
    have hrow : ∑ j ∈ Finset.range 126, gj W k k j / gj W k k k * X j = gj W k k b / gj W k k k := by
      rw [← ih k (by omega), div_eq_mul_inv (∑ j ∈ _, _), Finset.sum_mul]
      exact Finset.sum_congr rfl fun j _ => by ring
    simp only [gj, gjStep]
    by_cases h : i = k
    · simp only [if_pos h]; exact hrow
    · simp only [if_neg h]
      rw [← ih i hi, ← hrow, Finset.mul_sum, ← Finset.sum_sub_distrib]
      exact Finset.sum_congr rfl fun j _ => by ring

/-- Eliminating `[h tridiag(1, 4, 1) | B]` leaves the solution in `B`'s place. -/
theorem gj_solves {h : ℝ} (hh : h ≠ 0) {W : ℕ → ℕ → ℝ} (hW : ∀ i j, i < 126 → j < 126 → W i j = h * tri i j)
    {X : ℕ → ℝ} {b : ℕ} (hX : ∀ i, i < 126 → ∑ j ∈ Finset.range 126, W i j * X j = W i b) {i : ℕ} (hi : i < 126) :
    gj W 126 i b = X i := by
  rw [← gj_keeps hX 126 le_rfl i hi]
  have R := gj_reduced hh hW 126 le_rfl
  rw [Finset.sum_congr rfl fun j hj => by rw [R.done i j hi (Finset.mem_range.1 hj)]]
  simp only [ite_mul, one_mul, zero_mul]
  rw [Finset.sum_ite_eq, if_pos (Finset.mem_range.2 hi)]

/-- A row of tridiag(1, 4, 1) against a column whose neighbours outside are zero. -/
theorem tri_sum (Y : ℕ → ℝ) (h0 : Y 0 = 0) (hl : Y 127 = 0) {i : ℕ} (hi : i < 126) :
    ∑ j ∈ Finset.range 126, tri i j * Y (j + 1) = Y i + 4 * Y (i + 1) + Y (i + 2) := by
  have e : ∀ a, 1 ≤ a + 1 → ∑ j ∈ Finset.range 126, (if a = j + 1 then (1 : ℝ) else 0) * Y (j + 1)
      = if 1 ≤ a ∧ a ≤ 126 then Y a else 0 := by
    intro a _
    simp only [ite_mul, one_mul, zero_mul]
    split_ifs with h
    · rw [Finset.sum_eq_single (a - 1)]
      · rw [if_pos (by omega), show a - 1 + 1 = a by omega]
      · intro b _ hb; rw [if_neg (by omega)]
      · intro hb; exact absurd (Finset.mem_range.2 (by omega)) hb
    · refine Finset.sum_eq_zero fun j hj => ?_
      have := Finset.mem_range.1 hj
      rw [if_neg (by omega)]
  have e' : ∀ a, (if 1 ≤ a ∧ a ≤ 126 then Y a else 0) = if a ≤ 127 then Y a else 0 := by
    intro a
    by_cases h1 : a = 0
    · subst h1; simp [h0]
    · by_cases h2 : a = 127
      · subst h2; simp [hl]
      · exact if_congr (by omega) rfl rfl
  have h1 := (e i (by omega)).trans (e' i)
  have h2 := (e (i + 1) (by omega)).trans (e' _)
  have h3 := (e (i + 2) (by omega)).trans (e' _)
  rw [if_pos (by omega)] at h1 h2 h3
  rw [← h1, ← h2, ← h3, Finset.mul_sum, ← Finset.sum_add_distrib, ← Finset.sum_add_distrib]
  refine Finset.sum_congr rfl fun j _ => ?_
  unfold tri
  by_cases c1 : i = j
  · rw [if_pos c1, if_neg (by omega), if_pos (by omega), if_neg (by omega)]; ring
  · by_cases c2 : i + 1 = j
    · rw [if_neg c1, if_pos (Or.inl c2), if_neg (by omega), if_neg (by omega), if_pos (by omega)]; ring
    · by_cases c3 : j + 1 = i
      · rw [if_neg c1, if_pos (Or.inr c3), if_pos (by omega), if_neg (by omega), if_neg (by omega)]; ring
      · rw [if_neg c1, if_neg (by omega), if_neg (by omega), if_neg (by omega), if_neg (by omega)]; ring

end Cert.Spline

end
-- ==== Proof.Segment.lean ====
/-
  One point of the spline: which segment a point lies in, the cubic on a segment, and the scalar facts over the
  extended reals by which both programs are read there.
-/
module

public import proofs.«01_k».proof.Proof.Tridiag
public import Idealize.ShloMosaic.Lib.Pointwise
public import Idealize.ShloMosaic.Lib.IdealHost

@[expose] public section

noncomputable section

namespace Cert.Spline

open Idealize.ShloMosaic

/-! ## Constants -/

/-- The literal 2. -/
theorem ofBits_2 : Ideal.ofBits .f32 0x40000000#32 = ((2 : ℝ) : EReal) := by
  simp [Ideal.ofBits, Ideal.ieee, -EReal.coe_mul]; norm_num

/-- The literal 3. -/
theorem ofBits_3 : Ideal.ofBits .f32 0x40400000#32 = ((3 : ℝ) : EReal) := by
  simp [Ideal.ofBits, Ideal.ieee, -EReal.coe_mul]; norm_num

/-- The literal 6. -/
theorem ofBits_6 : Ideal.ofBits .f32 0x40C00000#32 = ((6 : ℝ) : EReal) := by
  simp [Ideal.ofBits, Ideal.ieee, -EReal.coe_mul]; norm_num

/-- The literal 126. -/
theorem ofBits_126 : Ideal.ofBits .f32 0x42FC0000#32 = ((126 : ℝ) : EReal) := by
  simp [Ideal.ofBits, Ideal.ieee, -EReal.coe_mul]; norm_num

/-- The literal 127. -/
theorem ofBits_127 : Ideal.ofBits .f32 0x42FE0000#32 = ((127 : ℝ) : EReal) := by
  simp [Ideal.ofBits, Ideal.ieee, -EReal.coe_mul]; norm_num

/-- The literal 252. -/
theorem ofBits_252 : Ideal.ofBits .f32 0x437C0000#32 = ((252 : ℝ) : EReal) := by
  simp [Ideal.ofBits, Ideal.ieee, -EReal.coe_mul]; norm_num

/-- The literal 254. -/
theorem ofBits_254 : Ideal.ofBits .f32 0x437E0000#32 = ((254 : ℝ) : EReal) := by
  simp [Ideal.ofBits, Ideal.ieee, -EReal.coe_mul]; norm_num

/-- The literal -1. -/
theorem ofBits_neg_1 : Ideal.ofBits .f32 0xBF800000#32 = ((-1 : ℝ) : EReal) := by
  simp [Ideal.ofBits, Ideal.ieee, -EReal.coe_mul]; norm_num

/-- A real quotient by a real that is not zero. -/
theorem div_real {y : ℝ} (h : y ≠ 0) (x : ℝ) : Ideal.div (x : EReal) (y : EReal) = ((x / y : ℝ) : EReal) := by
  rw [Ideal.div_coe h, ← EReal.coe_mul, mul_one_div]

/-- A finite sum of reals, over the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A scaled second difference of three reals. -/
theorem second_diff {a b c : EReal} {x y z : ℝ} (s k : ℝ) (ha : a = (x : EReal)) (hb : b = (y : EReal)) (hc : c = (z : EReal)) :
    (s : EReal) * (a - (k : EReal) * b + c) = ((s * (x - k * y + z) : ℝ) : EReal) := by
  rw [ha, hb, hc, ← EReal.coe_mul, ← EReal.coe_sub, ← EReal.coe_add, ← EReal.coe_mul]

/-! ## The segment of a point -/

/-- The number of the segment a point lies in: the points left of the knots are in the first, those right of them in
    the last. -/
def seg (t : ℝ) : ℕ := (max 0 (min 126 ⌊t * 127⌋)).toNat

/-- The last segment is 126. -/
theorem seg_le (t : ℝ) : seg t ≤ 126 := by unfold seg; omega

/-- The segment is the rounded-down position, clipped to 0 … 126. -/
theorem seg_eq (t : ℝ) : ((seg t : ℕ) : ℤ) = max 0 (min 126 ⌊t * 127⌋) := by unfold seg; omega

/-- The clipped floor is the segment's number. -/
theorem clip_floor (t : ℝ) :
    min ((126 : ℝ) : EReal) (max 0 (Ideal.liftRound Int.floor (((t * 127 : ℝ)) : EReal))) = ((seg t : ℝ) : EReal) := by
  have h : ((seg t : ℕ) : ℝ) = max 0 (min 126 ((⌊t * 127⌋ : ℤ) : ℝ)) := by
    have := congrArg (fun z : ℤ => (z : ℝ)) (seg_eq t)
    push_cast at this
    exact this
  rw [Ideal.liftRound_coe, ← EReal.coe_zero, ← EReal.coe_strictMono.monotone.map_max, ← EReal.coe_strictMono.monotone.map_min,
    h]
  congr 1
  rcases le_total (0 : ℝ) ((⌊t * 127⌋ : ℤ) : ℝ) with h1 | h1
  · rw [max_eq_right h1, max_eq_right (le_min (by norm_num) h1)]
  · rw [max_eq_left h1, max_eq_left (le_trans (min_le_right _ _) h1), min_eq_right (by norm_num)]

/-- The integer of a natural number's real is its word. -/
theorem fptosi_nat {n : ℕ} (hn : n ≤ 1000) : Ideal.fptosi 32 ((n : ℝ) : EReal) = BitVec.ofNat 32 n := by
  unfold Ideal.fptosi
  rw [Ideal.toIntClamped_coe, if_pos (Nat.cast_nonneg n), Int.floor_natCast,
    show max (-((2 ^ (32 - 1) : ℕ) : ℤ)) (min (((2 ^ (32 - 1) : ℕ) : ℤ) - 1) (n : ℤ)) = (n : ℤ) by omega]
  exact BitVec.ofInt_natCast ..

/-- Two small words are compared as the numbers they hold. -/
theorem cmpi_eq_ofNat {a b : ℕ} (ha : a < 1000) (hb : b < 1000) :
    (IntOp.cmpi .eq (BitVec.ofNat 32 a) (BitVec.ofNat 32 b) = 1#1) ↔ a = b := by
  have h : (BitVec.ofNat 32 a = BitVec.ofNat 32 b) ↔ a = b := by
    constructor
    · intro h
      have := congrArg BitVec.toNat h
      simp only [BitVec.toNat_ofNat] at this
      omega
    · rintro rfl; rfl
  change BitVec.ofBool (BitVec.ofNat 32 a == BitVec.ofNat 32 b) = 1#1 ↔ a = b
  rw [← h]
  by_cases hab : BitVec.ofNat 32 a = BitVec.ofNat 32 b
  · rw [beq_iff_eq.2 hab]
    exact ⟨fun _ => hab, fun _ => rfl⟩
  · rw [beq_eq_false_iff_ne.2 hab]
    exact ⟨fun e => absurd e (by decide), fun e => absurd e hab⟩

/-- A row with two neighbouring entries against a column of reals picks two of the column's entries. -/
theorem hat_sum {s : ℕ} (hs : s ≤ 126) (a b : ℝ) (Y : ℕ → ℝ) (y : Fin 128 → EReal) (p q : Fin 128 → BitVec 1)
    (hy : ∀ x : Fin 128, y x = ((Y x : ℝ) : EReal)) (hp : ∀ x : Fin 128, p x = 1#1 ↔ (x : ℕ) = s)
    (hq : ∀ x : Fin 128, q x = 1#1 ↔ (x : ℕ) = s + 1) :
    ∑ x, (Scalar.select (p x) (a : EReal) 0 + Scalar.select (q x) (b : EReal) 0) * y x
      = ((a * Y s + b * Y (s + 1) : ℝ) : EReal) := by
  have h : ∀ x : Fin 128, (Scalar.select (p x) (a : EReal) 0 + Scalar.select (q x) (b : EReal) 0) * y x
      = ((((if (x : ℕ) = s then a else 0) + (if (x : ℕ) = s + 1 then b else 0)) * Y x : ℝ) : EReal) := by
    intro x
    rw [hy x]
    change ((if p x = 1#1 then (a : EReal) else 0) + (if q x = 1#1 then (b : EReal) else 0)) * _ = _
    rw [show (if p x = 1#1 then (a : EReal) else 0) = ((if (x : ℕ) = s then a else 0 : ℝ) : EReal) by
        by_cases hx : (x : ℕ) = s
        · rw [if_pos hx, if_pos ((hp x).2 hx)]
        · rw [if_neg hx, if_neg fun e => hx ((hp x).1 e)]; rfl,
      show (if q x = 1#1 then (b : EReal) else 0) = ((if (x : ℕ) = s + 1 then b else 0 : ℝ) : EReal) by
        by_cases hx : (x : ℕ) = s + 1
        · rw [if_pos hx, if_pos ((hq x).2 hx)]
        · rw [if_neg hx, if_neg fun e => hx ((hq x).1 e)]; rfl,
      ← EReal.coe_add, ← EReal.coe_mul]
  rw [Finset.sum_congr rfl fun x _ => h x, coe_sum,
    Fin.sum_univ_eq_sum_range (fun x => ((if x = s then a else 0) + (if x = s + 1 then b else 0)) * Y x) 128]
  congr 1
  simp only [add_mul, ite_mul, zero_mul]
  rw [Finset.sum_add_distrib, Finset.sum_ite_eq', Finset.sum_ite_eq', if_pos (Finset.mem_range.2 (by omega)),
    if_pos (Finset.mem_range.2 (by omega))]

/-- The spline's value at a point, from the values and second derivatives at the knots. -/
def cubic (t : ℝ) (Y D : ℕ → ℝ) : ℝ :=
  let s := seg t
  let l := t - (s : ℝ) * (1 / 127)
  let r := ((s : ℝ) + 1) * (1 / 127) - t
  (r * 127 * Y s + l * 127 * Y (s + 1)) + (r * (127 / 6 * r * r - 1 / 762) * D s + l * (127 / 6 * l * l - 1 / 762) * D (s + 1))

/-! ## The values at the knots -/

/-- A channel's values at the knots: one value at either end, and the parameters between them. -/
def knots (lo hi : ℝ) (A : ℕ → ℝ) (a : ℕ) : ℝ := if a < 1 then lo else if a - 1 < 126 then A (a - 1) else hi

/-- The channels of both splines, the means' first. -/
def both (A S : ℕ → ℕ → ℝ) (x : ℕ) : ℕ → ℝ := if x < 512 then knots (-1) 1 (A x) else knots 0 0 (S (x - 512))

end Cert.Spline

end
-- ==== Proof.KPoint.lean ====
/-
  The kernel's blocks at one entry: what each region stores there, from the entries it loads.
-/
module

public import proofs.«01_k».proof.Proof.Gen.KernelIdeal.Frame
public import proofs.«01_k».proof.Proof.Segment
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- The constant named `h` is 1/127. -/
theorem named_h : Named.named (F := Ideal) Cert.KernelIdeal.κ "h" (φ := .f32) 0x3C010204#32 = ((1 / 127 : ℝ) : EReal) :=
  IdealRules.named_const.ideal_named_scalar _ _ _ _ rfl

/-- The constant named `c1` is 127/6. -/
theorem named_c1 : Named.named (F := Ideal) Cert.KernelIdeal.κ "c1" (φ := .f32) 0x41A95555#32 = ((127 / 6 : ℝ) : EReal) :=
  IdealRules.named_const.ideal_named_scalar _ _ _ _ rfl

/-- The constant named `c2` is 1/762. -/
theorem named_c2 : Named.named (F := Ideal) Cert.KernelIdeal.κ "c2" (φ := .f32) 0x3AAC02B0#32 = ((1 / 762 : ℝ) : EReal) :=
  IdealRules.named_const.ideal_named_scalar _ _ _ _ rfl

/-- The first region's product at an entry is the matrix's row against the table's column. -/
theorem table_at (A : FVec Ideal S128x128 .f32) (B : FVec Ideal S128x1024 .f32) (f g : ℕ → ℝ) (a : Fin 128) (b : Fin 1024)
    (hA : ∀ x : Fin 128, A (ix2 a x) = ((f x : ℝ) : EReal)) (hB : ∀ x : Fin 128, B (ix2 x b) = ((g x : ℝ) : EReal)) :
    k0_pay1 (F := Ideal) A B (ix2 a b) = ((∑ l ∈ Finset.range 128, f l * g l : ℝ) : EReal) := by
  have h : k0_pay1 (F := Ideal) A B (ix2 a b) = ∑ x : Fin 128, A (ix2 a x) * B (ix2 x b) := by
    pointwise [k0_pay1]
  rw [h, Finset.sum_congr rfl fun x _ => by rw [hA x, hB x, ← EReal.coe_mul], Cert.Spline.coe_sum,
    Fin.sum_univ_eq_sum_range (fun x => f x * g x) 128]

/-- The second region's sum of four products at an entry is the cubic of the point's segment. -/
theorem mu_at (t : FVec Ideal S512 .f32) (y M : FVec Ideal S128x512 .f32) (τ : ℝ) (Y D : ℕ → ℝ) (a b : Fin 512)
    (ht : t (ix1 a) = ((τ : ℝ) : EReal)) (hy : ∀ x : Fin 128, y (ix2 x b) = ((Y x : ℝ) : EReal))
    (hM : ∀ x : Fin 128, M (ix2 x b) = ((D x : ℝ) : EReal)) :
    k1_pay3 (F := Ideal) (k1_pay9 (F := Ideal) t) (k1_pay10 (F := Ideal) t) (k1_pay11 (F := Ideal) t)
      (k1_pay12 (F := Ideal) t) (k1_pay13 (F := Ideal) t) (Scalar.ofBits .f32 0x00000000#32) (k1_pay14 (F := Ideal) t) y M
      (ix2 a b) = ((Cert.Spline.cubic τ Y D : ℝ) : EReal) := by
  pointwise [k1_pay3, k1_pay1, k1_pay2, k1_pay9, k1_pay10, k1_pay11, k1_pay12, k1_pay13, k1_pay14, k1_pay8, k1_pay7,
    k1_pay6, k1_pay5]
  have hs := Cert.Spline.seg_le τ
  have hp : ∀ x : Fin 128, IntOp.cmpi .eq (BitVec.ofNat 32 (x : ℕ)) (BitVec.ofNat 32 (Cert.Spline.seg τ)) = 1#1
      ↔ (x : ℕ) = Cert.Spline.seg τ := fun x => Cert.Spline.cmpi_eq_ofNat (by omega) (by omega)
  have hq : ∀ x : Fin 128, IntOp.cmpi .eq (BitVec.ofNat 32 (x : ℕ)) (BitVec.ofNat 32 (Cert.Spline.seg τ + 1)) = 1#1
      ↔ (x : ℕ) = Cert.Spline.seg τ + 1 := fun x => Cert.Spline.cmpi_eq_ofNat (by omega) (by omega)
  have hadd : IntOp.addi (BitVec.ofNat 32 (Cert.Spline.seg τ)) 1#32 = BitVec.ofNat 32 (Cert.Spline.seg τ + 1) :=
    (BitVec.ofNat_add _ _).symm
  have hf : FloatOps.fptosi (F := Ideal) (φ := .f32) 32 ((Cert.Spline.seg τ : ℝ) : EReal)
      = BitVec.ofNat 32 (Cert.Spline.seg τ) := Cert.Spline.fptosi_nat (by omega)
  simp only [ht, Cert.Spline.ofBits_126, Cert.Spline.ofBits_127, ← EReal.coe_mul, Cert.Spline.clip_floor,
    hf, named_h, named_c1, named_c2, hadd, ← EReal.coe_one,
    ← EReal.coe_add, ← EReal.coe_sub]
  rw [Cert.Spline.hat_sum hs _ _ Y _ _ _ hy hp hq, Cert.Spline.hat_sum hs _ _ D _ _ _ hM hp hq, ← EReal.coe_add]
  rfl

/-- The second region's other output is the exponential of the same sum on the other tables. -/
theorem sigma_at (t : FVec Ideal S512 .f32) (y M : FVec Ideal S128x512 .f32) (τ : ℝ) (Y D : ℕ → ℝ) (a b : Fin 512)
    (ht : t (ix1 a) = ((τ : ℝ) : EReal)) (hy : ∀ x : Fin 128, y (ix2 x b) = ((Y x : ℝ) : EReal))
    (hM : ∀ x : Fin 128, M (ix2 x b) = ((D x : ℝ) : EReal)) :
    k1_pay4 (F := Ideal) (k1_pay9 (F := Ideal) t) (k1_pay10 (F := Ideal) t) (k1_pay11 (F := Ideal) t)
      (k1_pay12 (F := Ideal) t) (k1_pay13 (F := Ideal) t) (Scalar.ofBits .f32 0x00000000#32) (k1_pay14 (F := Ideal) t) y M
      (ix2 a b) = ((Real.exp (Cert.Spline.cubic τ Y D) : ℝ) : EReal) := by
  refine (congrArg Ideal.exp (mu_at t y M τ Y D a b ht hy hM)).trans ?_
  exact Ideal.exp_coe _

end Cert.KernelIdeal.Value

end
-- ==== Proof.KTable.lean ====
/-
  The kernel's host part: the inverse of the spline's matrix in closed form, and from it the matrix that takes the values
  at the knots to the second derivatives there.
-/
module

public import proofs.«01_k».proof.Proof.KPoint
public import Idealize.ShloMosaic.Lib.StableHlo.RunRead
public import Idealize.ShloMosaic.Lib.IdealHost
public import Mathlib.Analysis.SpecialFunctions.Log.Basic

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Spline (rho q qnum qpad knots both)

/-! ## Scalars -/

/-- A small number's word, read as a float. -/
theorem sitofp_ofNat {n : ℕ} (hn : n < 1000) :
    FloatOps.sitofp (F := Ideal) .f32 (BitVec.ofNat 32 n) = ((n : ℝ) : EReal) := by
  change (((BitVec.ofNat 32 n).toInt : ℝ) : EReal) = _
  rw [BitVec.toInt_ofNat', Int.bmod_eq_of_le (by omega) (by omega)]
  norm_num

/-- One minus twice the parity of a sum of two small numbers is the sign of that sum. -/
theorem sign_word {i j : ℕ} (hi : i < 200) (hj : j < 200) :
    FloatOps.sitofp (F := Ideal) .f32
      (IntOp.subi 1#32 (IntOp.muli 2#32 (IntOp.andi (IntOp.addi (BitVec.ofNat 32 i) (BitVec.ofNat 32 j)) 1#32)))
      = (((-1 : ℝ) ^ (i + j) : ℝ) : EReal) := by
  have h1 : IntOp.addi (BitVec.ofNat 32 i) (BitVec.ofNat 32 j) = BitVec.ofNat 32 (i + j) := (BitVec.ofNat_add _ _).symm
  have h2 : IntOp.andi (BitVec.ofNat 32 (i + j)) 1#32 = BitVec.ofNat 32 ((i + j) % 2) := by
    change BitVec.ofNat 32 (i + j) &&& 1#32 = _
    apply BitVec.eq_of_toNat_eq
    rw [BitVec.toNat_and, BitVec.toNat_ofNat, BitVec.toNat_ofNat, BitVec.toNat_ofNat,
      show (1 % 2 ^ 32 : ℕ) = 1 from rfl, Nat.and_one_is_mod]
    omega
  rw [h1, h2]
  rcases Nat.mod_two_eq_zero_or_one (i + j) with h | h
  · rw [h, (Nat.even_iff.2 h).neg_one_pow,
      show IntOp.subi 1#32 (IntOp.muli 2#32 (BitVec.ofNat 32 0)) = BitVec.ofNat 32 1 from by decide,
      sitofp_ofNat (by omega), Nat.cast_one]
  · rw [h, (Nat.odd_iff.2 h).neg_one_pow,
      show IntOp.subi 1#32 (IntOp.muli 2#32 (BitVec.ofNat 32 1)) = BitVec.ofInt 32 (-1) from by decide]
    change (((BitVec.ofInt 32 (-1)).toInt : ℝ) : EReal) = _
    rw [show (BitVec.ofInt 32 (-1)).toInt = -1 from by decide]
    norm_num

/-- The root of three, as the program takes it. -/
theorem sqrt_three : Ideal.sqrt ((3 : ℝ) : EReal) = ((√3 : ℝ) : EReal) := by
  rw [Ideal.sqrt_coe, if_neg (by norm_num)]

/-- The logarithm of 2 + √3, as the program takes it. -/
theorem log_base : Ideal.log (((2 + √3 : ℝ)) : EReal) = ((Real.log (2 + √3) : ℝ) : EReal) := by
  rw [Ideal.log_coe, if_neg (by have := Real.sqrt_nonneg 3; linarith)]

/-- The powers of the decaying root, as exponentials. -/
theorem exp_log (k : ℕ) : Real.exp (-Real.log (2 + √3) * k) = (-rho) ^ k := by
  have h0 : (0 : ℝ) < 2 + √3 := by have := Real.sqrt_nonneg 3; linarith
  have h3 : √3 * √3 = 3 := Real.mul_self_sqrt (by norm_num)
  have h : -rho = (2 + √3)⁻¹ := by
    unfold rho
    refine eq_inv_of_mul_eq_one_left ?_
    linear_combination (-1) * h3
  rw [mul_comm, Real.exp_nat_mul, Real.exp_neg, Real.exp_log h0, h]

/-- An even power loses the sign. -/
theorem neg_rho_even (k : ℕ) : (-rho) ^ (2 * k) = rho ^ (2 * k) := by
  rw [pow_mul, pow_mul, neg_sq]

/-- The closed form's numerator, sign and powers apart. -/
theorem qnum_signed (i j : ℕ) (hi : i ≤ 125) (hj : j ≤ 125) :
    (-1 : ℝ) ^ (i + j) * ((-rho) ^ (max i j - min i j) * (1 - (-rho) ^ (2 * min i j + 2))
      * (1 - (-rho) ^ (252 - 2 * max i j))) = qnum (i + 1) (j + 1) := by
  unfold qnum
  rw [show 2 * min i j + 2 = 2 * (min i j + 1) by ring, show 252 - 2 * max i j = 2 * (126 - max i j) by omega,
    neg_rho_even, neg_rho_even, show min (i + 1) (j + 1) = min i j + 1 by omega,
    show max (i + 1) (j + 1) = max i j + 1 by omega, show 127 - (max i j + 1) = 126 - max i j by omega,
    show max i j + 1 - (min i j + 1) = max i j - min i j by omega]
  have : (-1 : ℝ) ^ (i + j) * (-rho) ^ (max i j - min i j) = rho ^ (max i j - min i j) := by
    have h : i + j = (max i j - min i j) + 2 * min i j := by omega
    rw [h, pow_add, pow_mul (-1 : ℝ) 2, neg_one_sq, one_pow, mul_one, ← mul_pow]
    norm_num
  rw [← this]; ring

variable (m : (ℓ : Loc nD τ sig) → Buf (Elt Ideal) ℓ) (ρ : Dev nD → PrngReg) (c : Dev nD)

/-- The closed form the host computes is the inverse of the spline's matrix, the spacing divided out. -/
theorem v60_at (i j : Fin 126) : (W1 m ρ c (Proc.devRef .tc main_v60) : FVec Ideal S126x126 .f32) (ix2 i j)
    = ((127 * q (i + 1) (j + 1) : ℝ) : EReal) := by
  dsimp only [W1]
  after_reads_simp
  pointwise []
  have hi := i.isLt
  have hj := j.isLt
  have e1 : ((max (i : ℝ) j - min (i : ℝ) j : ℝ)) = ((max (i : ℕ) j - min (i : ℕ) j : ℕ) : ℝ) := by
    rw [Nat.cast_sub (by omega), Nat.cast_max, Nat.cast_min]
  have e2 : (2 * min (i : ℝ) j + 2 : ℝ) = ((2 * min (i : ℕ) j + 2 : ℕ) : ℝ) := by push_cast; ring
  have e3 : (252 - 2 * max (i : ℝ) j : ℝ) = ((252 - 2 * max (i : ℕ) j : ℕ) : ℝ) := by
    rw [Nat.cast_sub (by omega)]; push_cast; ring
  have e4 : (254 : ℝ) = ((254 : ℕ) : ℝ) := by norm_num
  have hd := Cert.Spline.den_ne
  have hd' : (2 * (1 / 127) * √3 * (1 - (-rho) ^ 254) : ℝ) ≠ 0 := by
    rw [show (254 : ℕ) = 2 * 127 from rfl, neg_rho_even]
    intro h; apply hd; linear_combination 127 * h
  rw [sign_word (by omega) (by omega), sitofp_ofNat (by omega), sitofp_ofNat (by omega), Cert.Spline.ofBits_2,
    Cert.Spline.ofBits_3, sqrt_three, Cert.Spline.ofBits_127, Cert.Spline.ofBits_252, Cert.Spline.ofBits_254,
    ← EReal.coe_add, log_base, ← EReal.coe_neg, ← EReal.coe_strictMono.monotone.map_max,
    ← EReal.coe_strictMono.monotone.map_min, ← EReal.coe_one, Cert.Spline.div_real (by norm_num)]
  simp only [← EReal.coe_sub, ← EReal.coe_mul, ← EReal.coe_add, Ideal.exp_coe]
  rw [e1, e2, e3, e4, exp_log, exp_log, exp_log, exp_log, qnum_signed _ _ (by omega) (by omega), Cert.Spline.div_real hd']
  congr 1
  unfold q
  rw [show (254 : ℕ) = 2 * 127 from rfl, neg_rho_even] at *
  field_simp

/-- The padded table: two columns of zeros on either side. -/
theorem v61_at (i : Fin 126) (x : Fin 130) : (W1 m ρ c (Proc.devRef .tc main_v61) : FVec Ideal S126x130 .f32) (ix2 i x)
    = ((127 * qpad (i + 1) x : ℝ) : EReal) := by
  have h60 : (W1 m ρ c (Proc.devRef .tc main_v61) : FVec Ideal S126x130 .f32)
      = concatenate S126x130 1 [⟨S126x2, (W1 m ρ c (Proc.devRef .tc main_v9) : FVec Ideal S126x2 .f32)⟩,
          ⟨S126x126, (W1 m ρ c (Proc.devRef .tc main_v60) : FVec Ideal S126x126 .f32)⟩,
          ⟨S126x2, (W1 m ρ c (Proc.devRef .tc main_v9) : FVec Ideal S126x2 .f32)⟩]
          concatenates_S126x2_S126x126_S126x2_S126x130_d1 := by
    dsimp only [W1]
    after_reads_simp
    dsimp only [Matrix.cons_val_zero, Matrix.cons_val_one, Matrix.cons_val]
    rfl
  have h9 : ∀ (i : Fin 126) (y : Fin 2), (W1 m ρ c (Proc.devRef .tc main_v9) : FVec Ideal S126x2 .f32) (ix2 i y) = ((0 : ℝ) : EReal) := by
    intro i y
    dsimp only [W1]
    after_reads_simp
    pointwise []
    exact EReal.coe_zero.symm
  rw [h60]
  pointwise []
  simp only [h9]
  unfold qpad
  by_cases h1 : (x : ℕ) < 2
  · rw [dif_pos h1, if_neg (by omega), mul_zero]
  · rw [dif_neg h1]
    by_cases h2 : (x : ℕ) - 2 < 126
    · rw [dif_pos h2]
      refine (v60_at m ρ c i ⟨(x : ℕ) - 2, h2⟩).trans ?_
      rw [if_pos (by omega), show ((⟨(x : ℕ) - 2, h2⟩ : Fin 126) : ℕ) + 1 = (x : ℕ) - 1 by
        show (x : ℕ) - 2 + 1 = (x : ℕ) - 1
        omega]
    · rw [dif_neg h2, if_neg (by omega), mul_zero]

/-- The second differences of a padded table's rows, scaled. -/
def diffs (s : FVec Ideal S_ .f32) (Q : FVec Ideal S126x130 .f32) : FVec Ideal S126x128 .f32 :=
  mulf (broadcastInDim S126x128 ![] bcast_S_S126x128 s)
    (addf (subf (extractStridedSlice S126x128 ![0, 2] Q slices_S126x130_S126x128_0_2)
        (mulf (broadcastInDim S126x128 ![] bcast_S_S126x128 (constant S_ .f32 0x40000000#32))
          (extractStridedSlice S126x128 ![0, 1] Q slices_S126x130_S126x128_0_1)))
      (extractStridedSlice S126x128 ![0, 0] Q slices_S126x130_S126x128_0_0))

/-- They are the rows of the matrix from values to second derivatives. -/
theorem v71_at (i : Fin 126) (l : Fin 128) : (W1 m ρ c (Proc.devRef .tc main_v71) : FVec Ideal S126x128 .f32) (ix2 i l)
    = ((Cert.Spline.P (i + 1) l : ℝ) : EReal) := by
  have h62 : (W1 m ρ c (Proc.devRef .tc main_v62) : FVec Ideal S_ .f32) ix0 = ((6 * 127 : ℝ) : EReal) := by
    dsimp only [W1]
    after_reads_simp
    pointwise []
    rw [Cert.Spline.ofBits_6, Cert.Spline.ofBits_127, ← EReal.coe_one, Cert.Spline.div_real (by norm_num),
      Cert.Spline.div_real (by norm_num)]
    norm_num
  have h71 : (W1 m ρ c (Proc.devRef .tc main_v71) : FVec Ideal S126x128 .f32)
      = diffs (W1 m ρ c (Proc.devRef .tc main_v62)) (W1 m ρ c (Proc.devRef .tc main_v61)) := by
    dsimp only [W1, diffs]
    after_reads_simp
  rw [h71]
  pointwise [diffs]
  rw [h62, Cert.Spline.ofBits_2]
  refine (Cert.Spline.second_diff (6 * 127) 2 (v61_at m ρ c i ⟨2 + (l : ℕ), by omega⟩)
    (v61_at m ρ c i ⟨1 + (l : ℕ), by omega⟩) (v61_at m ρ c i ⟨(l : ℕ), by omega⟩)).trans ?_
  congr 1
  unfold Cert.Spline.P
  rw [show (l : ℕ) + 2 = 2 + (l : ℕ) by omega, show (l : ℕ) + 1 = 1 + (l : ℕ) by omega]
  ring

/-- The matrix from values to second derivatives. -/
theorem v73_at (a : Fin 128) (l : Fin 128) : (W1 m ρ c (Proc.devRef .tc main_v73) : FVec Ideal S128x128 .f32) (ix2 a l)
    = ((Cert.Spline.P a l : ℝ) : EReal) := by
  have h72 : ∀ (i : Fin 1) (y : Fin 128), (W1 m ρ c (Proc.devRef .tc main_v72) : FVec Ideal S1x128 .f32) (ix2 i y) = ((0 : ℝ) : EReal) := by
    intro i y
    dsimp only [W1]
    after_reads_simp
    pointwise []
    exact EReal.coe_zero.symm
  have h73 : (W1 m ρ c (Proc.devRef .tc main_v73) : FVec Ideal S128x128 .f32)
      = concatenate S128x128 0 [⟨S1x128, (W1 m ρ c (Proc.devRef .tc main_v72) : FVec Ideal S1x128 .f32)⟩,
          ⟨S126x128, (W1 m ρ c (Proc.devRef .tc main_v71) : FVec Ideal S126x128 .f32)⟩,
          ⟨S1x128, (W1 m ρ c (Proc.devRef .tc main_v72) : FVec Ideal S1x128 .f32)⟩]
          concatenates_S1x128_S126x128_S1x128_S128x128_d0 := by
    dsimp only [W1]
    after_reads_simp
    dsimp only [Matrix.cons_val_zero, Matrix.cons_val_one, Matrix.cons_val]
    rfl
  rw [h73]
  pointwise []
  by_cases h1 : (a : ℕ) < 1
  · rw [dif_pos h1, h72, show (a : ℕ) = 0 by omega, Cert.Spline.P_zero]
  · rw [dif_neg h1]
    by_cases h2 : (a : ℕ) - 1 < 126
    · rw [dif_pos h2]
      refine (v71_at m ρ c ⟨(a : ℕ) - 1, h2⟩ l).trans ?_
      rw [show ((⟨(a : ℕ) - 1, h2⟩ : Fin 126) : ℕ) + 1 = (a : ℕ) by
        show (a : ℕ) - 1 + 1 = (a : ℕ)
        omega]
    · rw [dif_neg h2, h72, show (a : ℕ) = 127 by omega, Cert.Spline.P_last]

/-! ## The values at the knots -/

/-- The means' values at the knots. -/
theorem v2_at (A : ℕ → ℕ → ℝ)
    (hA : ∀ (i : Fin 126) (b : Fin 512), (m (c.tc.loc main_arg1) : FVec Ideal S126x512 .f32) (ix2 i b) = ((A b i : ℝ) : EReal))
    (a : Fin 128) (b : Fin 512) : (W1 m ρ c (Proc.devRef .tc main_v2) : FVec Ideal S128x512 .f32) (ix2 a b)
      = ((knots (-1) 1 (A b) a : ℝ) : EReal) := by
  have hlo : ∀ (i : Fin 1) (y : Fin 512), (W1 m ρ c (Proc.devRef .tc main_v1) : FVec Ideal S1x512 .f32) (ix2 i y) = ((-1 : ℝ) : EReal) := by
    intro i y
    dsimp only [W1]
    after_reads_simp
    pointwise []
    rw [EReal.coe_neg, EReal.coe_one]
  have hhi : ∀ (i : Fin 1) (y : Fin 512), (W1 m ρ c (Proc.devRef .tc main_v0) : FVec Ideal S1x512 .f32) (ix2 i y) = ((1 : ℝ) : EReal) := by
    intro i y
    dsimp only [W1]
    after_reads_simp
    pointwise []
    exact EReal.coe_one.symm
  have h : (W1 m ρ c (Proc.devRef .tc main_v2) : FVec Ideal S128x512 .f32)
      = concatenate S128x512 0 [⟨S1x512, (W1 m ρ c (Proc.devRef .tc main_v1) : FVec Ideal S1x512 .f32)⟩,
          ⟨S126x512, (m (c.tc.loc main_arg1) : FVec Ideal S126x512 .f32)⟩,
          ⟨S1x512, (W1 m ρ c (Proc.devRef .tc main_v0) : FVec Ideal S1x512 .f32)⟩]
          concatenates_S1x512_S126x512_S1x512_S128x512_d0 := by
    dsimp only [W1]
    after_reads_simp
    dsimp only [Matrix.cons_val_zero, Matrix.cons_val_one, Matrix.cons_val]
    rfl
  rw [h]
  pointwise []
  unfold knots
  by_cases h1 : (a : ℕ) < 1
  · rw [dif_pos h1, if_pos h1, hlo]
  · rw [dif_neg h1, if_neg h1]
    by_cases h2 : (a : ℕ) - 1 < 126
    · rw [dif_pos h2]
      refine (hA ⟨(a : ℕ) - 1, h2⟩ b).trans ?_
      rw [if_pos h2]
    · rw [dif_neg h2, if_neg h2, hhi]

/-- The deviations' values at the knots. -/
theorem v7_at (A : ℕ → ℕ → ℝ)
    (hA : ∀ (i : Fin 126) (b : Fin 512), (m (c.tc.loc main_arg2) : FVec Ideal S126x512 .f32) (ix2 i b) = ((A b i : ℝ) : EReal))
    (a : Fin 128) (b : Fin 512) : (W1 m ρ c (Proc.devRef .tc main_v7) : FVec Ideal S128x512 .f32) (ix2 a b)
      = ((knots (0) 0 (A b) a : ℝ) : EReal) := by
  have hlo : ∀ (i : Fin 1) (y : Fin 512), (W1 m ρ c (Proc.devRef .tc main_v4) : FVec Ideal S1x512 .f32) (ix2 i y) = ((0 : ℝ) : EReal) := by
    intro i y
    dsimp only [W1]
    after_reads_simp
    pointwise []
    exact EReal.coe_zero.symm
  have hhi : ∀ (i : Fin 1) (y : Fin 512), (W1 m ρ c (Proc.devRef .tc main_v6) : FVec Ideal S1x512 .f32) (ix2 i y) = ((0 : ℝ) : EReal) := by
    intro i y
    dsimp only [W1]
    after_reads_simp
    pointwise []
    exact EReal.coe_zero.symm
  have h : (W1 m ρ c (Proc.devRef .tc main_v7) : FVec Ideal S128x512 .f32)
      = concatenate S128x512 0 [⟨S1x512, (W1 m ρ c (Proc.devRef .tc main_v4) : FVec Ideal S1x512 .f32)⟩,
          ⟨S126x512, (m (c.tc.loc main_arg2) : FVec Ideal S126x512 .f32)⟩,
          ⟨S1x512, (W1 m ρ c (Proc.devRef .tc main_v6) : FVec Ideal S1x512 .f32)⟩]
          concatenates_S1x512_S126x512_S1x512_S128x512_d0 := by
    dsimp only [W1]
    after_reads_simp
    dsimp only [Matrix.cons_val_zero, Matrix.cons_val_one, Matrix.cons_val]
    rfl
  rw [h]
  pointwise []
  unfold knots
  by_cases h1 : (a : ℕ) < 1
  · rw [dif_pos h1, if_pos h1, hlo]
  · rw [dif_neg h1, if_neg h1]
    by_cases h2 : (a : ℕ) - 1 < 126
    · rw [dif_pos h2]
      refine (hA ⟨(a : ℕ) - 1, h2⟩ b).trans ?_
      rw [if_pos h2]
    · rw [dif_neg h2, if_neg h2, hhi]

/-- Both tables side by side. -/
theorem v74_at (A S : ℕ → ℕ → ℝ)
    (hA : ∀ (i : Fin 126) (b : Fin 512), (m (c.tc.loc main_arg1) : FVec Ideal S126x512 .f32) (ix2 i b) = ((A b i : ℝ) : EReal))
    (hS : ∀ (i : Fin 126) (b : Fin 512), (m (c.tc.loc main_arg2) : FVec Ideal S126x512 .f32) (ix2 i b) = ((S b i : ℝ) : EReal))
    (a : Fin 128) (x : Fin 1024) : (W1 m ρ c (Proc.devRef .tc main_v74) : FVec Ideal S128x1024 .f32) (ix2 a x)
      = ((both A S x a : ℝ) : EReal) := by
  have h : (W1 m ρ c (Proc.devRef .tc main_v74) : FVec Ideal S128x1024 .f32)
      = concatenate S128x1024 1 [⟨S128x512, (W1 m ρ c (Proc.devRef .tc main_v2) : FVec Ideal S128x512 .f32)⟩,
          ⟨S128x512, (W1 m ρ c (Proc.devRef .tc main_v7) : FVec Ideal S128x512 .f32)⟩]
          concatenates_S128x512_S128x512_S128x1024_d1 := by
    dsimp only [W1]
    after_reads_simp
    rfl
  rw [h]
  pointwise []
  unfold both
  by_cases h1 : (x : ℕ) < 512
  · rw [dif_pos h1, if_pos h1]
    exact v2_at m ρ c A hA a ⟨(x : ℕ), h1⟩
  · rw [dif_neg h1, if_neg h1]
    exact v7_at m ρ c S hS a ⟨(x : ℕ) - 512, by omega⟩

end Cert.KernelIdeal.Value

end
-- ==== Proof.KValue.lean ====
/-
  The kernel's two regions and the buffers it returns, entry by entry.
-/
module

public import proofs.«01_k».proof.Proof.KTable
public import proofs.«01_k».proof.Proof.KRun

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Spline (knots both mtab cubic)
open Idealize.ShloMosaic.Pipeline (Dat)

section Regions

variable (V : (c : Dev nD) → (b : Ref sig .tc) → Buf (Elt Ideal) ((c : Thread nD τ).loc b)) (c : Dev nD)

/-- Every window of the first region is its whole array. -/
theorem idx0 : win0_0.index t0_0 = ![0, 0] ∧ win0_1.index t0_0 = ![0, 0] := by decide +kernel

/-- The first region leaves the product of its two arrays. -/
theorem region0 : (dat0 V c).arrAt 2 cfg0.N = k0_pay1 (F := Ideal) (V c main_v73) (V c main_v74) := by
  refine (dat0 V c).arrAt_eq_of_after_last 2 t0_0 (by decide +kernel) _ fun j => ?_
  blk_simp
  rw [after0_2]
  frame_out
  have e0 : iblk0 V c 0 t0_0 = V c main_v73 := by
    funext x
    blk_ext [iblk0, idx0]
  have e1 : iblk0 V c 1 t0_0 = V c main_v74 := by
    funext x
    blk_ext [iblk0, idx0]
  rw [e0, e1]

/-- The second region's windows: the points' blocks follow the grid, the tables are whole. -/
theorem idx : ∀ t : Fin cfg1.N, win1_0.index t = ![t.val] ∧ win1_1.index t = ![0, 0] ∧ win1_2.index t = ![0, 0]
    ∧ win1_3.index t = ![0, 0] ∧ win1_4.index t = ![0, 0] ∧ win1_5.index t = ![t.val, 0] ∧ win1_6.index t = ![t.val, 0] :=
  (by decide +kernel : ∀ t : Fin grid1.N, _)

variable (T : ℕ → ℝ) (hT : ∀ i : Fin 8192, (V c main_arg0 : FVec Ideal S8192 .f32) (ix1 i) = ((T i : ℝ) : EReal))

include hT

/-- A point of a block of points. -/
theorem block_t (t : Fin cfg1.N) (a : Fin 512) :
    (iblk1 V c 0 t : FVec Ideal S512 .f32) (ix1 a) = ((T (t.val * 512 + a) : ℝ) : EReal) := by
  have ht : t.val < 16 := t.isLt
  refine Eq.trans ?_ (hT ⟨t.val * 512 + a, by omega⟩)
  blk_ext [iblk1, idx t]

/-- The second region's first output. -/
theorem region1_mu (Y D : ℕ → ℕ → ℝ)
    (hY : ∀ (x : Fin 128) (b : Fin 512), (V c main_v2 : FVec Ideal S128x512 .f32) (ix2 x b) = ((Y b x : ℝ) : EReal))
    (hD : ∀ (x : Fin 128) (b : Fin 512), (V c main_v76 : FVec Ideal S128x512 .f32) (ix2 x b) = ((D b x : ℝ) : EReal)) :
    (dat1 V c).arrAt 5 cfg1.N = (fun i : S8192x512.Idx => ((cubic (T (i 0)) (Y (i 1)) (D (i 1)) : ℝ) : EReal)) := by
  refine (dat1 V c).arrAt_eq_of_covers 5 _ (by decide +kernel) fun t _ y => ?_
  blk_simp
  rw [after1_5]
  frame_out
  simp only [k1_pay15, k1_pay16, k1_pay17, k1_pay18, k1_pay19, k1_pay20]
  rw [View.ld_unit_zero (by decide)]
  have e1 : iblk1 V c 1 t = V c main_v2 := by
    funext x
    blk_ext [iblk1, idx t]
  have e3 : iblk1 V c 3 t = V c main_v76 := by
    funext x
    blk_ext [iblk1, idx t]
  rw [e1, e3]
  rw [(idx t).2.2.2.2.2.1]
  have h := mu_at (iblk1 V c 0 t) (V c main_v2) (V c main_v76) _ (Y (y 1)) (D (y 1)) (y 0) (y 1)
    (block_t V c T hT t (y 0)) (fun x => hY x (y 1)) (fun x => hD x (y 1))
  simp only [Matrix.cons_val_zero, Matrix.cons_val_one, Matrix.cons_val, zero_mul, zero_add]
  rw [← h]
  exact congrArg _ (eq_ix2 y)

/-- The second region's other output. -/
theorem region1_sigma (Y D : ℕ → ℕ → ℝ)
    (hY : ∀ (x : Fin 128) (b : Fin 512), (V c main_v7 : FVec Ideal S128x512 .f32) (ix2 x b) = ((Y b x : ℝ) : EReal))
    (hD : ∀ (x : Fin 128) (b : Fin 512), (V c main_v77 : FVec Ideal S128x512 .f32) (ix2 x b) = ((D b x : ℝ) : EReal)) :
    (dat1 V c).arrAt 6 cfg1.N = (fun i : S8192x512.Idx => ((Real.exp (cubic (T (i 0)) (Y (i 1)) (D (i 1))) : ℝ) : EReal)) := by
  refine (dat1 V c).arrAt_eq_of_covers 6 _ (by decide +kernel) fun t _ y => ?_
  blk_simp
  rw [after1_6]
  frame_out
  simp only [k1_pay15, k1_pay16, k1_pay17, k1_pay18, k1_pay19, k1_pay20]
  rw [View.ld_unit_zero (by decide)]
  have e1 : iblk1 V c 2 t = V c main_v7 := by
    funext x
    blk_ext [iblk1, idx t]
  have e3 : iblk1 V c 4 t = V c main_v77 := by
    funext x
    blk_ext [iblk1, idx t]
  rw [e1, e3]
  rw [(idx t).2.2.2.2.2.2]
  have h := sigma_at (iblk1 V c 0 t) (V c main_v7) (V c main_v77) _ (Y (y 1)) (D (y 1)) (y 0) (y 1)
    (block_t V c T hT t (y 0)) (fun x => hY x (y 1)) (fun x => hD x (y 1))
  simp only [Matrix.cons_val_zero, Matrix.cons_val_one, Matrix.cons_val, zero_mul, zero_add]
  rw [← h]
  exact congrArg _ (eq_ix2 y)

end Regions

section Run

variable (m : (ℓ : Loc nD τ sig) → Buf (Elt Ideal) ℓ) (ρ : Dev nD → PrngReg) (c : Dev nD)
variable (T : ℕ → ℝ) (A S : ℕ → ℕ → ℝ)
  (hT : ∀ i : Fin 8192, (m (c.tc.loc main_arg0) : FVec Ideal S8192 .f32) (ix1 i) = ((T i : ℝ) : EReal))
  (hA : ∀ (i : Fin 126) (b : Fin 512), (m (c.tc.loc main_arg1) : FVec Ideal S126x512 .f32) (ix2 i b) = ((A b i : ℝ) : EReal))
  (hS : ∀ (i : Fin 126) (b : Fin 512), (m (c.tc.loc main_arg2) : FVec Ideal S126x512 .f32) (ix2 i b) = ((S b i : ℝ) : EReal))

include hA hS

/-- The second derivatives at the knots. -/
theorem v75_at (a : Fin 128) (x : Fin 1024) : (W2 m ρ c (Proc.devRef .tc main_v75) : FVec Ideal S128x1024 .f32) (ix2 a x)
    = ((mtab (both A S x) a : ℝ) : EReal) := by
  have h : W2 m ρ c (Proc.devRef .tc main_v75) = k0_pay1 (F := Ideal) (V1 m ρ c main_v73) (V1 m ρ c main_v74) :=
    (W2_arr m ρ c 2).trans (region0 (V1 m ρ) c)
  rw [h]
  exact table_at _ _ (Cert.Spline.P a) (both A S x) a x (fun l => v73_at m ρ c a l) (fun l => v74_at m ρ c A S hA hS l x)

/-- The means' half of them. -/
theorem v76_at (a : Fin 128) (b : Fin 512) : (W3 m ρ c (Proc.devRef .tc main_v76) : FVec Ideal S128x512 .f32) (ix2 a b)
    = ((mtab (both A S b) a : ℝ) : EReal) := by
  refine Eq.trans ?_ (v75_at m ρ c A S hA hS a ⟨(b : ℕ), by omega⟩)
  dsimp only [W3]
  after_reads_simp
  pointwise []

/-- The deviations' half. -/
theorem v77_at (a : Fin 128) (b : Fin 512) : (W3 m ρ c (Proc.devRef .tc main_v77) : FVec Ideal S128x512 .f32) (ix2 a b)
    = ((mtab (both A S (512 + b)) a : ℝ) : EReal) := by
  refine Eq.trans ?_ (v75_at m ρ c A S hA hS a ⟨512 + (b : ℕ), by omega⟩)
  dsimp only [W3]
  after_reads_simp
  pointwise []

include hT

/-- The means, before they are reshaped. -/
theorem v78_0_eq : W4 m ρ c (Proc.devRef .tc main_v78_0)
    = (fun i : S8192x512.Idx => ((cubic (T (i 0)) (both A S (i 1)) (mtab (both A S (i 1))) : ℝ) : EReal)) := by
  refine (W4_arr m ρ c 5).trans ?_
  refine region1_mu (V3 m ρ) c T (fun i => ?_) (fun b => both A S b) (fun b => mtab (both A S b)) (fun x b => ?_)
    (fun x b => v76_at m ρ c A S hA hS x b)
  · refine Eq.trans ?_ (hT i)
    exact congrFun (W3_args m ρ c main_arg0 (by decide)) _
  · have e : W3 m ρ c (Proc.devRef .tc main_v2) = W1 m ρ c (Proc.devRef .tc main_v2) :=
      (W3_of m ρ c main_v2 (by decide)).trans (W2_of m ρ c main_v2 (by decide))
    refine (congrFun e _).trans ((v2_at m ρ c A hA x b).trans ?_)
    unfold both
    rw [if_pos b.isLt]

/-- The deviations, before they are reshaped. -/
theorem v78_1_eq : W4 m ρ c (Proc.devRef .tc main_v78_1)
    = (fun i : S8192x512.Idx => ((Real.exp (cubic (T (i 0)) (both A S (512 + (i 1 : ℕ))) (mtab (both A S (512 + (i 1 : ℕ)))))
        : ℝ) : EReal)) := by
  refine (W4_arr m ρ c 6).trans ?_
  refine region1_sigma (V3 m ρ) c T (fun i => ?_) (fun b => both A S (512 + b)) (fun b => mtab (both A S (512 + b)))
    (fun x b => ?_) (fun x b => v77_at m ρ c A S hA hS x b)
  · refine Eq.trans ?_ (hT i)
    exact congrFun (W3_args m ρ c main_arg0 (by decide)) _
  · have e : W3 m ρ c (Proc.devRef .tc main_v7) = W1 m ρ c (Proc.devRef .tc main_v7) :=
      (W3_of m ρ c main_v7 (by decide)).trans (W2_of m ρ c main_v7 (by decide))
    refine (congrFun e _).trans ((v7_at m ρ c S hS x b).trans ?_)
    unfold both
    rw [if_neg (by omega), show 512 + (b : ℕ) - 512 = b by omega]

/-- The first result. -/
theorem v79_eq : W5 m ρ c (Proc.devRef .tc main_v79)
    = shapeCast S8192x8x64 (fun i : S8192x512.Idx => ((cubic (T (i 0)) (both A S (i 1)) (mtab (both A S (i 1))) : ℝ) : EReal))
      shapeCasts_S8192x512_S8192x8x64 := by
  rw [← v78_0_eq m ρ c T A S hT hA hS]
  dsimp only [W5]
  after_reads_simp
  rfl

/-- The second result. -/
theorem v80_eq : W5 m ρ c (Proc.devRef .tc main_v80)
    = shapeCast S8192x8x64 (fun i : S8192x512.Idx => ((Real.exp (cubic (T (i 0)) (both A S (512 + (i 1 : ℕ)))
        (mtab (both A S (512 + (i 1 : ℕ))))) : ℝ) : EReal)) shapeCasts_S8192x512_S8192x8x64 := by
  rw [← v78_1_eq m ρ c T A S hT hA hS]
  dsimp only [W5]
  after_reads_simp
  rfl

end Run

end Cert.KernelIdeal.Value

end
-- ==== Proof.RPre.lean ====
/-
  The reference before its loop: the knots, the values at the knots, and the linear system for the second derivatives.
-/
module

public import proofs.«01_k».proof.Proof.Segment
public import proofs.«01_k».proof.Proof.Gen.ReferenceIdeal.Run
public import Idealize.ShloMosaic.Lib.IdealHost

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spline (knots both tri mtab)

variable (V : Valuation τ sig (Elt Ideal))

/-! ## The knots -/

/-- A small number's word, read as a float. -/
theorem sitofp_nat {n : ℕ} (hn : n < 1000) :
    FloatOps.sitofp (F := Ideal) .f32 (BitVec.ofNat 32 n) = ((n : ℝ) : EReal) := by
  change (((BitVec.ofNat 32 n).toInt : ℝ) : EReal) = _
  rw [BitVec.toInt_ofNat', Int.bmod_eq_of_le (by omega) (by omega)]
  norm_num

/-- The points of evaluation, divided by one. -/
theorem v1_at (T : ℕ → ℝ) (hT : ∀ i : Fin 8192, (V (Proc.devRef .tc main_arg0) : FVec Ideal S8192 .f32) (ix1 i) = ((T i : ℝ) : EReal))
    (i : Fin 8192) : (StableHlo.after hostOps0 V (Proc.devRef .tc main_v1) : FVec Ideal S8192 .f32) (ix1 i) = ((T i : ℝ) : EReal) := by
  after_reads_simp
  pointwise []
  rw [hT, ← EReal.coe_one, Cert.Spline.div_real one_ne_zero, div_one]

/-- Zero and one, as the knots' ends. -/
theorem ends_at : (StableHlo.after hostOps0 V (Proc.devRef .tc main_cst_0) : FVec Ideal S_ .f32) ix0 = ((0 : ℝ) : EReal)
    ∧ (StableHlo.after hostOps0 V (Proc.devRef .tc main_cst_1) : FVec Ideal S_ .f32) ix0 = ((1 : ℝ) : EReal) := by
  constructor
  · after_reads_simp
    pointwise []
    exact EReal.coe_zero.symm
  · after_reads_simp
    pointwise []
    exact EReal.coe_one.symm

/-- The knots below the last one. -/
theorem lin_at (h0 : (V (Proc.devRef .tc main_cst_0) : FVec Ideal S_ .f32) ix0 = ((0 : ℝ) : EReal))
    (h1 : (V (Proc.devRef .tc main_cst_1) : FVec Ideal S_ .f32) ix0 = ((1 : ℝ) : EReal)) (k : Fin 127) :
    (StableHlo.after hostOps0_1 V (Proc.devRef .tc main_call0_v15) : FVec Ideal S127 .f32) (ix1 k) = (((k : ℕ) / 127 : ℝ) : EReal) := by
  after_reads_simp
  simp -implicitDefEqProofs only [StableHlo.TRef.toBuf, StableHlo.TRef.ofBuf, cast_eq]
  pointwise []
  rw [sitofp_nat (by omega), Cert.Spline.ofBits_127, Cert.Spline.div_real (by norm_num), ← EReal.coe_one]
  simp only [id_eq]
  rw [h0, h1]
  simp only [← EReal.coe_sub, ← EReal.coe_mul, ← EReal.coe_add]
  congr 1
  ring

/-- The knots are the multiples of one over 127. -/
theorem v2_at (h0 : (V (Proc.devRef .tc main_cst_0) : FVec Ideal S_ .f32) ix0 = ((0 : ℝ) : EReal))
    (h1 : (V (Proc.devRef .tc main_cst_1) : FVec Ideal S_ .f32) ix0 = ((1 : ℝ) : EReal)) (k : Fin 128) :
    (StableHlo.after hostOps0_1 V (Proc.devRef .tc main_v2) : FVec Ideal S128 .f32) (ix1 k) = (((k : ℕ) / 127 : ℝ) : EReal) := by
  have h16 : ∀ i : Fin 1, (StableHlo.after hostOps0_1 V (Proc.devRef .tc main_call0_v16) : FVec Ideal S1 .f32) (ix1 i) = ((1 : ℝ) : EReal) := by
    intro i
    after_reads_simp
    simp -implicitDefEqProofs only [StableHlo.TRef.toBuf, StableHlo.TRef.ofBuf, cast_eq]
    pointwise []
    exact h1
  have h : (StableHlo.after hostOps0_1 V (Proc.devRef .tc main_v2) : FVec Ideal S128 .f32)
      = concatenate S128 0 [⟨S127, (StableHlo.after hostOps0_1 V (Proc.devRef .tc main_call0_v15) : FVec Ideal S127 .f32)⟩,
          ⟨S1, (StableHlo.after hostOps0_1 V (Proc.devRef .tc main_call0_v16) : FVec Ideal S1 .f32)⟩]
          concatenates_S127_S1_S128_d0 := by
    after_reads_simp
    simp -implicitDefEqProofs only [StableHlo.TRef.toBuf, StableHlo.TRef.ofBuf, cast_eq]
    rfl
  rw [h]
  pointwise []
  by_cases hk : (k : ℕ) < 127
  · rw [dif_pos hk]
    exact lin_at V h0 h1 ⟨k, hk⟩
  · rw [dif_neg hk, h16, show (k : ℕ) = 127 by omega]
    norm_num

/-! ## The values at the knots -/

/-- The values at the knots: the means' channels, then the deviations'. -/
theorem v17_at (A S : ℕ → ℕ → ℝ)
    (hA : ∀ (i : Fin 126) (b : Fin 512), (V (Proc.devRef .tc main_arg1) : FVec Ideal S126x512 .f32) (ix2 i b) = ((A b i : ℝ) : EReal))
    (hS : ∀ (i : Fin 126) (b : Fin 512), (V (Proc.devRef .tc main_arg2) : FVec Ideal S126x512 .f32) (ix2 i b) = ((S b i : ℝ) : EReal))
    (a : Fin 128) (x : Fin 1024) : (StableHlo.after hostOps0_2 V (Proc.devRef .tc main_v17) : FVec Ideal S128x1024 .f32) (ix2 a x)
      = ((both A S x a : ℝ) : EReal) := by
  have h11 : ∀ (i : Fin 1) (y : Fin 512), (StableHlo.after hostOps0_2 V (Proc.devRef .tc main_v11) : FVec Ideal S1x512 .f32) (ix2 i y) = ((-1 : ℝ) : EReal) := by
    intro i y
    after_reads_simp
    pointwise []
    rw [Cert.Spline.ofBits_neg_1]
  have h12 : ∀ (i : Fin 1) (y : Fin 512), (StableHlo.after hostOps0_2 V (Proc.devRef .tc main_v12) : FVec Ideal S1x512 .f32) (ix2 i y) = ((1 : ℝ) : EReal) := by
    intro i y
    after_reads_simp
    pointwise []
    exact EReal.coe_one.symm
  have h14 : ∀ (i : Fin 1) (y : Fin 512), (StableHlo.after hostOps0_2 V (Proc.devRef .tc main_v14) : FVec Ideal S1x512 .f32) (ix2 i y) = ((0 : ℝ) : EReal) := by
    intro i y
    after_reads_simp
    pointwise []
    rw [← EReal.coe_one, Ideal.log_coe, if_neg (by norm_num), Real.log_one]
  have h15 : ∀ (i : Fin 1) (y : Fin 512), (StableHlo.after hostOps0_2 V (Proc.devRef .tc main_v15) : FVec Ideal S1x512 .f32) (ix2 i y) = ((0 : ℝ) : EReal) := by
    intro i y
    after_reads_simp
    pointwise []
    rw [← EReal.coe_one, Ideal.log_coe, if_neg (by norm_num), Real.log_one]
  have h13 : (StableHlo.after hostOps0_2 V (Proc.devRef .tc main_v13) : FVec Ideal S128x512 .f32)
      = concatenate S128x512 0 [⟨S1x512, (StableHlo.after hostOps0_2 V (Proc.devRef .tc main_v11) : FVec Ideal S1x512 .f32)⟩,
          ⟨S126x512, (V (Proc.devRef .tc main_arg1) : FVec Ideal S126x512 .f32)⟩,
          ⟨S1x512, (StableHlo.after hostOps0_2 V (Proc.devRef .tc main_v12) : FVec Ideal S1x512 .f32)⟩]
          concatenates_S1x512_S126x512_S1x512_S128x512_d0 := by
    after_reads_simp
    dsimp only [Matrix.cons_val_zero, Matrix.cons_val_one, Matrix.cons_val]
    rfl
  have h16 : (StableHlo.after hostOps0_2 V (Proc.devRef .tc main_v16) : FVec Ideal S128x512 .f32)
      = concatenate S128x512 0 [⟨S1x512, (StableHlo.after hostOps0_2 V (Proc.devRef .tc main_v14) : FVec Ideal S1x512 .f32)⟩,
          ⟨S126x512, (V (Proc.devRef .tc main_arg2) : FVec Ideal S126x512 .f32)⟩,
          ⟨S1x512, (StableHlo.after hostOps0_2 V (Proc.devRef .tc main_v15) : FVec Ideal S1x512 .f32)⟩]
          concatenates_S1x512_S126x512_S1x512_S128x512_d0 := by
    after_reads_simp
    dsimp only [Matrix.cons_val_zero, Matrix.cons_val_one, Matrix.cons_val]
    rfl
  have h17 : (StableHlo.after hostOps0_2 V (Proc.devRef .tc main_v17) : FVec Ideal S128x1024 .f32)
      = concatenate S128x1024 1 [⟨S128x512, (StableHlo.after hostOps0_2 V (Proc.devRef .tc main_v13) : FVec Ideal S128x512 .f32)⟩,
          ⟨S128x512, (StableHlo.after hostOps0_2 V (Proc.devRef .tc main_v16) : FVec Ideal S128x512 .f32)⟩]
          concatenates_S128x512_S128x512_S128x1024_d1 := by
    after_reads_simp
    rfl
  rw [h17, h13, h16]
  pointwise []
  simp only [h11, h12, h14, h15]
  unfold both knots
  by_cases hx : (x : ℕ) < 512
  · rw [dif_pos hx, if_pos hx]
    by_cases h1 : (a : ℕ) < 1
    · rw [dif_pos h1, if_pos h1]
    · rw [dif_neg h1, if_neg h1]
      by_cases h2 : (a : ℕ) - 1 < 126
      · rw [dif_pos h2, if_pos h2]
        exact hA ⟨_, h2⟩ ⟨_, hx⟩
      · rw [dif_neg h2, if_neg h2]
  · rw [dif_neg hx, if_neg hx]
    by_cases h1 : (a : ℕ) < 1
    · rw [dif_pos h1, if_pos h1]
    · rw [dif_neg h1, if_neg h1]
      by_cases h2 : (a : ℕ) - 1 < 126
      · rw [dif_pos h2, if_pos h2]
        exact hS ⟨_, h2⟩ ⟨_, by omega⟩
      · rw [dif_neg h2, if_neg h2]

/-! ## The linear system -/

/-- The knots' distances are all one over 127. -/
theorem v18_at (h2 : ∀ k : Fin 128, (V (Proc.devRef .tc main_v2) : FVec Ideal S128 .f32) (ix1 k) = (((k : ℕ) / 127 : ℝ) : EReal))
    (k : Fin 127) : (StableHlo.after hostOps0_3 V (Proc.devRef .tc main_v18) : FVec Ideal S127 .f32) (ix1 k) = ((1 / 127 : ℝ) : EReal) := by
  after_reads_simp
  simp -implicitDefEqProofs only [StableHlo.TRef.toBuf, StableHlo.TRef.ofBuf, cast_eq]
  pointwise []
  simp only [h2, ← EReal.coe_sub]
  congr 1
  push_cast
  ring

/-- The right-hand sides: scaled second differences of the values at the knots. -/
theorem v35_at (Y : ℕ → ℕ → ℝ)
    (h18 : ∀ k : Fin 127, (V (Proc.devRef .tc main_v18) : FVec Ideal S127 .f32) (ix1 k) = ((1 / 127 : ℝ) : EReal))
    (h17 : ∀ (a : Fin 128) (x : Fin 1024), (V (Proc.devRef .tc main_v17) : FVec Ideal S128x1024 .f32) (ix2 a x) = ((Y x a : ℝ) : EReal))
    (i : Fin 126) (x : Fin 1024) : (StableHlo.after hostOps0_4 V (Proc.devRef .tc main_v35) : FVec Ideal S126x1024 .f32) (ix2 i x)
      = ((6 * 127 * (Y x i - 2 * Y x (i + 1) + Y x (i + 2)) : ℝ) : EReal) := by
  after_reads_simp
  pointwise []
  rw [Cert.Spline.ofBits_6]
  simp only [h17, h18, ← EReal.coe_sub]
  rw [Cert.Spline.div_real (by norm_num), Cert.Spline.div_real (by norm_num)]
  simp only [← EReal.coe_sub, ← EReal.coe_mul]
  congr 1
  rw [show (i : ℕ) + 2 = 2 + (i : ℕ) by omega, show (i : ℕ) + 1 = 1 + (i : ℕ) by omega]
  field_simp
  ring

/-- The system's diagonal. -/
theorem v40_at (h18 : ∀ k : Fin 127, (V (Proc.devRef .tc main_v18) : FVec Ideal S127 .f32) (ix1 k) = ((1 / 127 : ℝ) : EReal))
    (i : Fin 126) : (StableHlo.after hostOps0_4 V (Proc.devRef .tc main_v40) : FVec Ideal S126 .f32) (ix1 i) = ((1 / 127 * 4 : ℝ) : EReal) := by
  after_reads_simp
  pointwise []
  rw [Cert.Spline.ofBits_2]
  simp only [h18, ← EReal.coe_add, ← EReal.coe_mul]
  congr 1
  norm_num

/-- The system's off-diagonal. -/
theorem v41_at (h18 : ∀ k : Fin 127, (V (Proc.devRef .tc main_v18) : FVec Ideal S127 .f32) (ix1 k) = ((1 / 127 : ℝ) : EReal))
    (i : Fin 125) : (StableHlo.after hostOps0_4 V (Proc.devRef .tc main_v41) : FVec Ideal S125 .f32) (ix1 i) = ((1 / 127 : ℝ) : EReal) := by
  after_reads_simp
  pointwise []
  exact h18 _

/-- A choice by the equality of two small numbers' words. -/
theorem select_eq {α : Type} {a b : ℕ} (ha : a < 1000) (hb : b < 1000) (x y : α) :
    Scalar.select (IntOp.cmpi .eq (BitVec.ofNat 32 a) (BitVec.ofNat 32 b)) x y = if a = b then x else y :=
  if_congr (Cert.Spline.cmpi_eq_ofNat ha hb) rfl rfl

/-- The diagonal as a matrix. -/
theorem v42_at (h40 : ∀ i : Fin 126, (V (Proc.devRef .tc main_v40) : FVec Ideal S126 .f32) (ix1 i) = ((1 / 127 * 4 : ℝ) : EReal))
    (i j : Fin 126) : (StableHlo.after hostOps0_5 V (Proc.devRef .tc main_v42) : FVec Ideal S126x126 .f32) (ix2 i j)
      = ((if (i : ℕ) = j then 1 / 127 * 4 else 0 : ℝ) : EReal) := by
  after_reads_simp
  simp -implicitDefEqProofs only [StableHlo.TRef.toBuf, StableHlo.TRef.ofBuf, cast_eq]
  pointwise []
  rw [h40]
  change Scalar.select (IntOp.cmpi .eq (BitVec.ofNat 32 i + BitVec.ofNat 32 0) (BitVec.ofNat 32 j)) _ _ = _
  rw [← BitVec.ofNat_add, Nat.add_zero]
  refine (select_eq (by omega) (by omega) _ _).trans ?_
  by_cases h : (i : ℕ) = j
  · rw [if_pos h, if_pos h]
  · rw [if_neg h, if_neg h]
    exact EReal.coe_zero.symm

/-- The upper off-diagonal as a matrix. -/
theorem v43_at (h41 : ∀ i : Fin 125, (V (Proc.devRef .tc main_v41) : FVec Ideal S125 .f32) (ix1 i) = ((1 / 127 : ℝ) : EReal))
    (i j : Fin 126) : (StableHlo.after hostOps0_6 V (Proc.devRef .tc main_v43) : FVec Ideal S126x126 .f32) (ix2 i j)
      = ((if (i : ℕ) + 1 = j then 1 / 127 else 0 : ℝ) : EReal) := by
  after_reads_simp
  simp -implicitDefEqProofs only [StableHlo.TRef.toBuf, StableHlo.TRef.ofBuf, cast_eq]
  pointwise []
  change Scalar.select (IntOp.cmpi .eq (BitVec.ofNat 32 i + BitVec.ofNat 32 1) (BitVec.ofNat 32 j)) _ _ = _
  rw [← BitVec.ofNat_add]
  refine (select_eq (by omega) (by omega) _ _).trans ?_
  by_cases h : (i : ℕ) + 1 = j
  · refine (if_pos h).trans ?_
    refine (dif_pos (show (i : ℕ) < 125 by omega)).trans ?_
    rw [if_pos h]
    exact h41 _
  · refine (if_neg h).trans ?_
    rw [if_neg h]
    exact EReal.coe_zero.symm

/-- The lower off-diagonal as a matrix. -/
theorem v45_at (h41 : ∀ i : Fin 125, (V (Proc.devRef .tc main_v41) : FVec Ideal S125 .f32) (ix1 i) = ((1 / 127 : ℝ) : EReal))
    (i j : Fin 126) : (StableHlo.after hostOps0_8 V (Proc.devRef .tc main_v45) : FVec Ideal S126x126 .f32) (ix2 i j)
      = ((if (j : ℕ) + 1 = i then 1 / 127 else 0 : ℝ) : EReal) := by
  after_reads_simp
  simp -implicitDefEqProofs only [StableHlo.TRef.toBuf, StableHlo.TRef.ofBuf, cast_eq]
  pointwise []
  by_cases h0 : (i : ℕ) = 0
  · rw [if_neg (by omega)]
    unfold Scalar.select
    refine Eq.trans ?_ EReal.coe_zero.symm
    split
    · exact dif_neg (fun h => absurd h.1 (by omega))
    · rfl
  · have e : IntOp.addi (BitVec.ofNat 32 i) 4294967295#32 = BitVec.ofNat 32 ((i : ℕ) - 1) := by
      change BitVec.ofNat 32 i + BitVec.ofNat 32 4294967295 = _
      rw [← BitVec.ofNat_add]
      apply BitVec.eq_of_toNat_eq
      rw [BitVec.toNat_ofNat, BitVec.toNat_ofNat]
      omega
    refine (congrArg (fun w => Scalar.select (IntOp.cmpi .eq w _) _ _) e).trans ?_
    refine (select_eq (by omega) (by omega) _ _).trans ?_
    by_cases h : (i : ℕ) - 1 = j
    · refine (if_pos h).trans ?_
      refine (dif_pos (show 1 ≤ (i : ℕ) ∧ (i : ℕ) - 1 < 125 by omega)).trans ?_
      rw [if_pos (by omega)]
      exact h41 _
    · refine (if_neg h).trans ?_
      rw [if_neg (by omega)]
      exact EReal.coe_zero.symm

/-- The sum of the first two diagonals. -/
theorem v44_at (i j : Fin 126) {x y : ℝ}
    (hx : (V (Proc.devRef .tc main_v42) : FVec Ideal S126x126 .f32) (ix2 i j) = ((x : ℝ) : EReal))
    (hy : (V (Proc.devRef .tc main_v43) : FVec Ideal S126x126 .f32) (ix2 i j) = ((y : ℝ) : EReal)) :
    (StableHlo.after hostOps0_7 V (Proc.devRef .tc main_v44) : FVec Ideal S126x126 .f32) (ix2 i j) = ((x + y : ℝ) : EReal) := by
  after_reads_simp
  pointwise []
  rw [hx, hy, EReal.coe_add]

/-- The system: the three diagonals, then the right-hand sides. -/
theorem v47_at (R : ℕ → ℕ → ℝ)
    (h44 : ∀ i j : Fin 126, (V (Proc.devRef .tc main_v44) : FVec Ideal S126x126 .f32) (ix2 i j)
      = (((if (i : ℕ) = j then 1 / 127 * 4 else 0) + (if (i : ℕ) + 1 = j then 1 / 127 else 0) : ℝ) : EReal))
    (h45 : ∀ i j : Fin 126, (V (Proc.devRef .tc main_v45) : FVec Ideal S126x126 .f32) (ix2 i j)
      = ((if (j : ℕ) + 1 = i then 1 / 127 else 0 : ℝ) : EReal))
    (h35 : ∀ (i : Fin 126) (x : Fin 1024), (V (Proc.devRef .tc main_v35) : FVec Ideal S126x1024 .f32) (ix2 i x) = ((R i x : ℝ) : EReal))
    (i : Fin 126) (j : Fin 1150) : (StableHlo.after hostOps0_9 V (Proc.devRef .tc main_v48_2) : FVec Ideal S126x1150 .f32) (ix2 i j)
      = ((if (j : ℕ) < 126 then 1 / 127 * tri i j else R i (j - 126) : ℝ) : EReal) := by
  have h46 : ∀ i j : Fin 126, (StableHlo.after hostOps0_9 V (Proc.devRef .tc main_v46) : FVec Ideal S126x126 .f32) (ix2 i j)
      = (((if (i : ℕ) = j then 1 / 127 * 4 else 0) + (if (i : ℕ) + 1 = j then 1 / 127 else 0)
        + (if (j : ℕ) + 1 = i then 1 / 127 else 0) : ℝ) : EReal) := by
    intro i j
    after_reads_simp
    pointwise []
    rw [h44, h45]
    exact (EReal.coe_add _ _).symm
  have h48 : (StableHlo.after hostOps0_9 V (Proc.devRef .tc main_v48_2) : FVec Ideal S126x1150 .f32)
      = concatenate S126x1150 1 [⟨S126x126, (StableHlo.after hostOps0_9 V (Proc.devRef .tc main_v46) : FVec Ideal S126x126 .f32)⟩,
          ⟨S126x1024, (V (Proc.devRef .tc main_v35) : FVec Ideal S126x1024 .f32)⟩] concatenates_S126x126_S126x1024_S126x1150_d1 := by
    after_reads_simp
    rfl
  rw [h48]
  pointwise []
  by_cases hj : (j : ℕ) < 126
  · rw [dif_pos hj, if_pos hj, h46]
    congr 1
    unfold tri
    by_cases e : (i : ℕ) = j
    · simp [e]
    · by_cases e1 : (i : ℕ) + 1 = j
      · simp [e, e1, show ¬ (j : ℕ) + 1 = i by omega]
      · by_cases e2 : (j : ℕ) + 1 = i
        · simp [e, e1, e2]
        · simp [e, e1, e2]
  · rw [dif_neg hj, if_neg hj]
    exact h35 i ⟨_, by omega⟩

/-- The loop's row counter starts at zero. -/
theorem v48_1_eq : (StableHlo.after hostOps0_9 V (Proc.devRef .tc main_v48_1) : IVec S_ 32) = fun _ => BitVec.ofNat 32 0 := by
  after_reads_simp
  rfl

/-! ## At the loop's entry -/

variable (m : (ℓ : Loc nD τ sig) → Buf (Elt Ideal) ℓ) (c : Dev nD)

/-- The contents after the knots. -/
def B1 : Valuation τ sig (Elt Ideal) := StableHlo.after hostOps0_1 (StableHlo.after hostOps0 (StableHlo.launchContents m c))
/-- The contents after the knots' distances. -/
def B3 : Valuation τ sig (Elt Ideal) := StableHlo.after hostOps0_3 (StableHlo.after hostOps0_2 (B1 m c))
/-- The contents after the first diagonal. -/
def B5 : Valuation τ sig (Elt Ideal) := StableHlo.after hostOps0_5 (StableHlo.after hostOps0_4 (B3 m c))
/-- The contents after the three diagonals. -/
def B8 : Valuation τ sig (Elt Ideal) :=
  StableHlo.after hostOps0_8 (StableHlo.after hostOps0_7 (StableHlo.after hostOps0_6 (B5 m c)))
/-- The contents at the loop's entry. -/
def B9 : Valuation τ sig (Elt Ideal) := StableHlo.after hostOps0_9 (B8 m c)

/-- They are the run's. -/
theorem entry_eq : StableHlo.entryContents preI m c = B9 m c := rfl

/-- What the knots' part leaves as it was. -/
theorem B1_keep (r : Ref sig .tc) (h0 : r ∉ hostOps0_W) (h1 : r ∉ hostOps0_1_W) :
    B1 m c (Proc.devRef .tc r) = StableHlo.launchContents m c (Proc.devRef .tc r) :=
  (StableHlo.after_of_writes_sub hostOps0_1 _ hostOps0_1_writes h1).trans (StableHlo.after_of_writes_sub hostOps0 _ hostOps0_writes h0)

/-- What the next part leaves as it was. -/
theorem B3_keep (r : Ref sig .tc) (h0 : r ∉ hostOps0_2_W) (h1 : r ∉ hostOps0_3_W) :
    B3 m c (Proc.devRef .tc r) = B1 m c (Proc.devRef .tc r) :=
  (StableHlo.after_of_writes_sub hostOps0_3 _ hostOps0_3_writes h1).trans (StableHlo.after_of_writes_sub hostOps0_2 _ hostOps0_2_writes h0)

/-- What the part with the first diagonal leaves as it was. -/
theorem B5_keep (r : Ref sig .tc) (h0 : r ∉ hostOps0_4_W) (h1 : r ∉ hostOps0_5_W) :
    B5 m c (Proc.devRef .tc r) = B3 m c (Proc.devRef .tc r) :=
  (StableHlo.after_of_writes_sub hostOps0_5 _ hostOps0_5_writes h1).trans (StableHlo.after_of_writes_sub hostOps0_4 _ hostOps0_4_writes h0)

/-- What the part with the other diagonals leaves as it was. -/
theorem B8_keep (r : Ref sig .tc) (h0 : r ∉ hostOps0_6_W) (h1 : r ∉ hostOps0_7_W) (h2 : r ∉ hostOps0_8_W) :
    B8 m c (Proc.devRef .tc r) = B5 m c (Proc.devRef .tc r) :=
  (StableHlo.after_of_writes_sub hostOps0_8 _ hostOps0_8_writes h2).trans
    ((StableHlo.after_of_writes_sub hostOps0_7 _ hostOps0_7_writes h1).trans (StableHlo.after_of_writes_sub hostOps0_6 _ hostOps0_6_writes h0))

/-- What the last part leaves as it was. -/
theorem B9_keep (r : Ref sig .tc) (h0 : r ∉ hostOps0_9_W) : B9 m c (Proc.devRef .tc r) = B8 m c (Proc.devRef .tc r) :=
  StableHlo.after_of_writes_sub hostOps0_9 _ hostOps0_9_writes h0

/-- The points of evaluation at the loop's entry. -/
theorem entry_v1 (T : ℕ → ℝ) (hT : ∀ i : Fin 8192, (m (c.tc.loc main_arg0) : FVec Ideal S8192 .f32) (ix1 i) = ((T i : ℝ) : EReal))
    (i : Fin 8192) : (B9 m c (Proc.devRef .tc main_v1) : FVec Ideal S8192 .f32) (ix1 i) = ((T i : ℝ) : EReal) := by
  rw [B9_keep m c _ (by decide), B8_keep m c _ (by decide) (by decide) (by decide), B5_keep m c _ (by decide) (by decide),
    B3_keep m c _ (by decide) (by decide)]
  refine (congrFun (StableHlo.after_of_writes_sub hostOps0_1 _ hostOps0_1_writes (by decide)) _).trans ?_
  exact v1_at _ T hT i

/-- The knots at the end of their part. -/
theorem B1_v2 (k : Fin 128) : (B1 m c (Proc.devRef .tc main_v2) : FVec Ideal S128 .f32) (ix1 k) = (((k : ℕ) / 127 : ℝ) : EReal) :=
  v2_at _ (ends_at _).1 (ends_at _).2 k

/-- The knots at the loop's entry. -/
theorem entry_v2 (k : Fin 128) : (B9 m c (Proc.devRef .tc main_v2) : FVec Ideal S128 .f32) (ix1 k) = (((k : ℕ) / 127 : ℝ) : EReal) := by
  rw [B9_keep m c _ (by decide), B8_keep m c _ (by decide) (by decide) (by decide), B5_keep m c _ (by decide) (by decide),
    B3_keep m c _ (by decide) (by decide)]
  exact B1_v2 m c k

/-- The knots' distances. -/
theorem B3_v18 (k : Fin 127) : (B3 m c (Proc.devRef .tc main_v18) : FVec Ideal S127 .f32) (ix1 k) = ((1 / 127 : ℝ) : EReal) := by
  refine v18_at _ (fun k => ?_) k
  refine (congrFun (StableHlo.after_of_writes_sub hostOps0_2 _ hostOps0_2_writes (by decide)) _).trans ?_
  exact B1_v2 m c k

variable (A S : ℕ → ℕ → ℝ)
    (hA : ∀ (i : Fin 126) (b : Fin 512), (m (c.tc.loc main_arg1) : FVec Ideal S126x512 .f32) (ix2 i b) = ((A b i : ℝ) : EReal))
    (hS : ∀ (i : Fin 126) (b : Fin 512), (m (c.tc.loc main_arg2) : FVec Ideal S126x512 .f32) (ix2 i b) = ((S b i : ℝ) : EReal))

include hA hS in
/-- The values at the knots. -/
theorem B3_v17 (a : Fin 128) (x : Fin 1024) :
    (B3 m c (Proc.devRef .tc main_v17) : FVec Ideal S128x1024 .f32) (ix2 a x) = ((both A S x a : ℝ) : EReal) := by
  refine (congrFun (StableHlo.after_of_writes_sub hostOps0_3 _ hostOps0_3_writes (by decide)) _).trans ?_
  refine v17_at _ A S (fun i b => ?_) (fun i b => ?_) a x
  · rw [B1_keep m c _ (by decide) (by decide)]
    exact hA i b
  · rw [B1_keep m c _ (by decide) (by decide)]
    exact hS i b

include hA hS in
/-- The values at the knots at the loop's entry. -/
theorem entry_v17 (a : Fin 128) (x : Fin 1024) :
    (B9 m c (Proc.devRef .tc main_v17) : FVec Ideal S128x1024 .f32) (ix2 a x) = ((both A S x a : ℝ) : EReal) := by
  rw [B9_keep m c _ (by decide), B8_keep m c _ (by decide) (by decide) (by decide), B5_keep m c _ (by decide) (by decide)]
  exact B3_v17 m c A S hA hS a x

include hA hS in
/-- The right-hand sides. -/
theorem B8_v35 (i : Fin 126) (x : Fin 1024) :
    (B8 m c (Proc.devRef .tc main_v35) : FVec Ideal S126x1024 .f32) (ix2 i x)
      = ((6 * 127 * (both A S x i - 2 * both A S x (i + 1) + both A S x (i + 2)) : ℝ) : EReal) := by
  rw [B8_keep m c _ (by decide) (by decide) (by decide)]
  refine (congrFun (StableHlo.after_of_writes_sub hostOps0_5 _ hostOps0_5_writes (by decide)) _).trans ?_
  exact v35_at _ (both A S) (B3_v18 m c) (B3_v17 m c A S hA hS) i x

/-- The off-diagonal after the first diagonal. -/
theorem B5_v41 (i : Fin 125) : (B5 m c (Proc.devRef .tc main_v41) : FVec Ideal S125 .f32) (ix1 i) = ((1 / 127 : ℝ) : EReal) := by
  refine (congrFun (StableHlo.after_of_writes_sub hostOps0_5 _ hostOps0_5_writes (by decide)) _).trans ?_
  exact v41_at _ (B3_v18 m c) i

/-- The first diagonal as a matrix. -/
theorem B5_v42 (i j : Fin 126) : (B5 m c (Proc.devRef .tc main_v42) : FVec Ideal S126x126 .f32) (ix2 i j)
    = ((if (i : ℕ) = j then 1 / 127 * 4 else 0 : ℝ) : EReal) :=
  v42_at _ (v40_at _ (B3_v18 m c)) i j

/-- The first two diagonals. -/
theorem B8_v44 (i j : Fin 126) : (B8 m c (Proc.devRef .tc main_v44) : FVec Ideal S126x126 .f32) (ix2 i j)
    = (((if (i : ℕ) = j then 1 / 127 * 4 else 0) + (if (i : ℕ) + 1 = j then 1 / 127 else 0) : ℝ) : EReal) := by
  refine (congrFun (StableHlo.after_of_writes_sub hostOps0_8 _ hostOps0_8_writes (by decide)) _).trans ?_
  refine v44_at _ i j ?_ (v43_at _ (B5_v41 m c) i j)
  refine (congrFun (StableHlo.after_of_writes_sub hostOps0_6 _ hostOps0_6_writes (by decide)) _).trans ?_
  exact B5_v42 m c i j

/-- The last diagonal. -/
theorem B8_v45 (i j : Fin 126) : (B8 m c (Proc.devRef .tc main_v45) : FVec Ideal S126x126 .f32) (ix2 i j)
    = ((if (j : ℕ) + 1 = i then 1 / 127 else 0 : ℝ) : EReal) := by
  refine v45_at _ (fun i => ?_) i j
  refine (congrFun (StableHlo.after_of_writes_sub hostOps0_7 _ hostOps0_7_writes (by decide)) _).trans ?_
  refine (congrFun (StableHlo.after_of_writes_sub hostOps0_6 _ hostOps0_6_writes (by decide)) _).trans ?_
  exact B5_v41 m c i

/-- The linear system with its right-hand sides, as a table of reals. -/
def system (i j : ℕ) : ℝ :=
  if j < 126 then 1 / 127 * tri i j
  else 6 * 127 * (both A S (j - 126) i - 2 * both A S (j - 126) (i + 1) + both A S (j - 126) (i + 2))

include hA hS in
/-- The system at the loop's entry. -/
theorem entry_v48 (i : Fin 126) (j : Fin 1150) :
    (B9 m c (Proc.devRef .tc main_v48_2) : FVec Ideal S126x1150 .f32) (ix2 i j) = ((system A S i j : ℝ) : EReal) :=
  v47_at _ (fun i x => 6 * 127 * (both A S x i - 2 * both A S x (i + 1) + both A S x (i + 2))) (B8_v44 m c) (B8_v45 m c)
    (B8_v35 m c A S hA hS) i j

end Cert.ReferenceIdeal.Value
-- ==== Proof.RLoop.lean ====
/-
  The reference's loop: each trip is one step of the elimination, and after the last one the right-hand sides' columns hold
  the second derivatives at the inner knots.
-/
module

public import proofs.«01_k».proof.Proof.RPre
public import Idealize.ShloMosaic.Lib.DynamicIndex
public import Idealize.ShloMosaic.Lib.WordCmp

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spline (both tri mtab gj gjStep)

/-- A small number's word, read as a signed integer. -/
theorem toInt_nat {k : ℕ} (hk : k < 1000) : (BitVec.ofNat 32 k).toInt = (k : ℤ) := by
  rw [BitVec.toInt_ofNat', Int.bmod_eq_of_le (by omega) (by omega)]

/-- A row at a run-time place is that row. -/
theorem slice_row (x : FVec Ideal S126x1150 .f32) (st : Fin 2 → ℤ) (h : S126x1150.Slices (fun _ => 0) S1x1150) {k : ℕ} (hk : k < 126)
    (h0 : st 0 = k) (h1 : st 1 = 0) (i : Fin 1) (j : Fin 1150) :
    Host.dynamicSlice S1x1150 x st h (ix2 i j) = x (ix2 ⟨k, hk⟩ j) := by
  have hs : S126x1150.Slices ![k, 0] S1x1150 := ⟨rfl, Fin.forall_fin_two.2 ⟨show k + 1 ≤ 126 by omega, show 0 + 1150 ≤ 1150 by omega⟩⟩
  rw [Host.dynamicSlice_eq_extractStridedSlice S1x1150 x st ![k, 0] h hs (Fin.forall_fin_two.2 ⟨h0, h1⟩)]
  pointwise []

/-- A column at a run-time place is that column. -/
theorem slice_col (x : FVec Ideal S126x1150 .f32) (st : Fin 2 → ℤ) (h : S126x1150.Slices (fun _ => 0) S126x1) {k : ℕ} (hk : k < 126)
    (h0 : st 0 = 0) (h1 : st 1 = k) (i : Fin 126) (j : Fin 1) :
    Host.dynamicSlice S126x1 x st h (ix2 i j) = x (ix2 i ⟨k, by omega⟩) := by
  have hs : S126x1150.Slices ![0, k] S126x1 := ⟨rfl, Fin.forall_fin_two.2 ⟨show 0 + 126 ≤ 126 by omega, show k + 1 ≤ 1150 by omega⟩⟩
  rw [Host.dynamicSlice_eq_extractStridedSlice S126x1 x st ![0, k] h hs (Fin.forall_fin_two.2 ⟨h0, h1⟩)]
  pointwise []

/-- An entry at a run-time place is that entry. -/
theorem slice_one (x : FVec Ideal S126x1150 .f32) (st : Fin 2 → ℤ) (h : S126x1150.Slices (fun _ => 0) S1x1) {k : ℕ} (hk : k < 126)
    (h0 : st 0 = k) (h1 : st 1 = k) (i j : Fin 1) :
    Host.dynamicSlice S1x1 x st h (ix2 i j) = x (ix2 ⟨k, hk⟩ ⟨k, by omega⟩) := by
  have hs : S126x1150.Slices ![k, k] S1x1 := ⟨rfl, Fin.forall_fin_two.2 ⟨show k + 1 ≤ 126 by omega, show k + 1 ≤ 1150 by omega⟩⟩
  rw [Host.dynamicSlice_eq_extractStridedSlice S1x1 x st ![k, k] h hs (Fin.forall_fin_two.2 ⟨h0, h1⟩)]
  pointwise []

/-- A row written at a run-time place stands there; the other rows stay. -/
theorem update_row (x : FVec Ideal S126x1150 .f32) (u : FVec Ideal S1x1150 .f32) (st : Fin 2 → ℤ)
    (h : S126x1150.Slices (fun _ => 0) S1x1150) {k : ℕ} (hk : k < 126)
    (h0 : st 0 = k) (h1 : st 1 = 0) (i : Fin 126) (j : Fin 1150) :
    Host.dynamicUpdateSlice x u st h (ix2 i j) = if (i : ℕ) = k then u (ix2 0 j) else x (ix2 i j) := by
  have hs : S126x1150.Slices ![k, 0] S1x1150 := ⟨rfl, Fin.forall_fin_two.2 ⟨show k + 1 ≤ 126 by omega, show 0 + 1150 ≤ 1150 by omega⟩⟩
  rw [WordCmp.dynamicUpdateSlice_eq_update x u st h ![k, 0] hs (Fin.forall_fin_two.2 ⟨h0, h1⟩)]
  pointwise []
  by_cases e : (i : ℕ) = k
  · refine (dif_pos (show k ≤ (i : ℕ) ∧ (i : ℕ) < k + 1 by omega)).trans ?_
    rw [if_pos e]
    exact congrArg (fun a => u (ix2 a j)) (Fin.ext (show (i : ℕ) - k = 0 by omega))
  · refine (dif_neg (show ¬ (k ≤ (i : ℕ) ∧ (i : ℕ) < k + 1) by omega)).trans ?_
    rw [if_neg e]

/-- An entry spread along a row. -/
theorem spread_one (x : FVec Ideal S1x1 .f32) (i : Fin 1) (j : Fin 1150) :
    broadcastInDim S1x1150 ![0, 1] bcast_S1x1_S1x1150_0_1 x (ix2 i j) = x (ix2 0 0) := by
  pointwise []

/-- A column spread over the columns. -/
theorem spread_col (x : FVec Ideal S126x1 .f32) (i : Fin 126) (j : Fin 1150) :
    broadcastInDim S126x1150 ![0, 1] bcast_S126x1_S126x1150_0_1 x (ix2 i j) = x (ix2 i 0) := by
  pointwise []

/-- A row spread over the rows. -/
theorem spread_row (x : FVec Ideal S1x1150 .f32) (i : Fin 126) (j : Fin 1150) :
    broadcastInDim S126x1150 ![0, 1] bcast_S1x1150_S126x1150_0_1 x (ix2 i j) = x (ix2 0 j) := by
  pointwise []

section

variable (V : Valuation τ sig (Elt Ideal)) (W : ℕ → ℕ → ℝ) {k : ℕ} (hk : k < 126)
  (h1 : (V (Proc.devRef .tc main_v48_1) : IVec S_ 32) = fun _ => BitVec.ofNat 32 k)
  (h2 : ∀ (i : Fin 126) (j : Fin 1150), (V (Proc.devRef .tc main_v48_2) : FVec Ideal S126x1150 .f32) (ix2 i j) = ((W i j : ℝ) : EReal))
  (hp : W k k ≠ 0)

include hk h1 h2 hp in
/-- The pivot's row divided by the pivot. -/
theorem row_at (i : Fin 1) (j : Fin 1150) :
    (res_main_while0b_v122 V : FVec Ideal S1x1150 .f32) (ix2 i j) = ((W k j / W k k : ℝ) : EReal) := by
  unfold res_main_while0b_v122
  rw [h1]
  have e := toInt_nat (show k < 1000 by omega)
  refine (congrArg₂ Ideal.div (slice_row _ _ _ hk e rfl i j) ((spread_one _ i j).trans (slice_one _ _ _ hk e e 0 0))).trans ?_
  rw [h2, h2, Cert.Spline.div_real hp]

include hk h1 h2 hp in
/-- One trip is one step of the elimination. -/
theorem step_at (i : Fin 126) (j : Fin 1150) :
    (STEP V (Proc.devRef .tc main_v48_2) : FVec Ideal S126x1150 .f32) (ix2 i j) = ((gjStep k W i j : ℝ) : EReal) := by
  rw [STEP_main_v48_2]
  unfold step_main_v48_2
  have e := toInt_nat (show k < 1000 by omega)
  have hr := row_at V W hk h1 h2 hp
  rw [id_eq, h1]
  refine (update_row _ _ _ _ hk e rfl i j).trans ?_
  unfold gjStep
  by_cases hi : (i : ℕ) = k
  · rw [if_pos hi, if_pos hi]
    exact hr 0 j
  · rw [if_neg hi, if_neg hi]
    refine (congrArg₂ (fun a b : EReal => a - b) (h2 i j) (congrArg₂ (fun a b : EReal => a * b)
      ((spread_col _ i j).trans (slice_col _ _ _ hk rfl e i 0)) ((spread_row _ i j).trans (hr 0 j)))).trans ?_
    rw [h2, ← EReal.coe_mul, ← EReal.coe_sub]

include hk h1 in
/-- The row counter goes up by one. -/
theorem step_count : (STEP V (Proc.devRef .tc main_v48_1) : IVec S_ 32) = fun _ => BitVec.ofNat 32 (k + 1) := by
  rw [STEP_main_v48_1]
  unfold step_main_v48_1
  rw [id_eq, h1]
  funext _
  exact (BitVec.ofNat_add _ _).symm

end

/-! ## All trips -/

variable (U : Valuation τ sig (Elt Ideal)) (M : ℕ → ℕ → ℝ)
  (hU1 : (U (Proc.devRef .tc main_v48_1) : IVec S_ 32) = fun _ => BitVec.ofNat 32 0)
  (hU2 : ∀ (i : Fin 126) (j : Fin 1150), (U (Proc.devRef .tc main_v48_2) : FVec Ideal S126x1150 .f32) (ix2 i j) = ((M i j : ℝ) : EReal))
  (hM : ∀ i j, i < 126 → j < 126 → M i j = 1 / 127 * tri i j)

include hU1 hU2 hM in
/-- After `k` trips: `k` steps of the elimination. -/
theorem trips_at : ∀ k, k ≤ 126 → ((STEP^[k] U) (Proc.devRef .tc main_v48_1) : IVec S_ 32) = (fun _ => BitVec.ofNat 32 k)
    ∧ ∀ (i : Fin 126) (j : Fin 1150), ((STEP^[k] U) (Proc.devRef .tc main_v48_2) : FVec Ideal S126x1150 .f32) (ix2 i j)
      = ((gj M k i j : ℝ) : EReal)
  | 0, _ => ⟨hU1, hU2⟩
  | k + 1, h => by
    obtain ⟨i1, i2⟩ := trips_at k (by omega)
    rw [Function.iterate_succ_apply']
    exact ⟨step_count _ (by omega) i1,
      step_at _ _ (by omega) i1 i2 (Cert.Spline.gj_pivot_ne (by norm_num : (1 / 127 : ℝ) ≠ 0) hM (by omega))⟩

variable (m : (ℓ : Loc nD τ sig) → Buf (Elt Ideal) ℓ) (c : Dev nD) (A S : ℕ → ℕ → ℝ)
    (hA : ∀ (i : Fin 126) (b : Fin 512), (m (c.tc.loc main_arg1) : FVec Ideal S126x512 .f32) (ix2 i b) = ((A b i : ℝ) : EReal))
    (hS : ∀ (i : Fin 126) (b : Fin 512), (m (c.tc.loc main_arg2) : FVec Ideal S126x512 .f32) (ix2 i b) = ((S b i : ℝ) : EReal))

include hA hS in
/-- The elimination's last table holds the second derivatives at the inner knots. -/
theorem solved_at (i : Fin 126) (x : Fin 1024) :
    (atK m 126 c (Proc.devRef .tc main_v48_2) : FVec Ideal S126x1150 .f32) (ix2 i ⟨126 + (x : ℕ), by omega⟩)
      = ((mtab (both A S x) (i + 1) : ℝ) : EReal) := by
  have hM : ∀ i j, i < 126 → j < 126 → system A S i j = 1 / 127 * tri i j := fun i j _ hj => if_pos hj
  rw [atK_agree m c 126 main_v48_2 (by decide), entry_eq]
  refine ((trips_at (B9 m c) (system A S) (v48_1_eq _) (entry_v48 m c A S hA hS) hM 126 le_rfl).2 i _).trans ?_
  congr 1
  refine Cert.Spline.gj_solves (X := fun j => mtab (both A S x) (j + 1)) (by norm_num : (1 / 127 : ℝ) ≠ 0) hM (fun a ha => ?_) i.isLt
  rw [Finset.sum_congr rfl fun j hj => by rw [hM a j ha (Finset.mem_range.1 hj), mul_assoc], ← Finset.mul_sum,
    Cert.Spline.tri_sum _ (Cert.Spline.mtab_zero _) (Cert.Spline.mtab_last _) ha, Cert.Spline.mtab_rec _ (by omega)]
  unfold system
  rw [if_neg (by simp), show ((⟨126 + (x : ℕ), by omega⟩ : Fin 1150) : ℕ) - 126 = x by
    show 126 + (x : ℕ) - 126 = x
    omega]
  ring

end Cert.ReferenceIdeal.Value
-- ==== Proof.RPost.lean ====
/-
  The reference after its loop: the segment each point lies in, the tables' entries there, and the cubic.
-/
module

public import proofs.«01_k».proof.Proof.RPre
public import Idealize.ShloMosaic.Lib.Routing.Ops
public import Idealize.ShloMosaic.Lib.Routing.OpsSearch

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spline (both mtab seg cubic)

/-! ## Counting the knots -/

/-- How many of the first numbers lie below a bound. -/
theorem count_below (a n : ℕ) : Nat.count (fun q => q < a) n = min a n := by
  induction n with
  | zero => simp
  | succ n ih =>
    rw [Nat.count_succ, ih]
    split <;> omega

/-- The clipped number of knots at or below a point, less one, is the point's segment. -/
theorem count_seg (t : ℝ) : min (Nat.count (fun q : ℕ => (q / 127 : ℝ) ≤ t) 128 - 1) 126 = seg t := by
  have hs := Cert.Spline.seg_eq t
  have e : (fun q : ℕ => (q / 127 : ℝ) ≤ t) = fun q : ℕ => q < (⌊t * 127⌋ + 1).toNat := by
    funext q
    rw [div_le_iff₀ (by norm_num), eq_iff_iff, ← Int.cast_natCast, ← Int.le_floor]
    omega
  have h : Nat.count (fun q : ℕ => (q / 127 : ℝ) ≤ t) 128 = min (⌊t * 127⌋ + 1).toNat 128 := by
    rw [← count_below]
    congr!
  rw [h]
  omega

/-- The words' form of the clipping. -/
theorem clip_words {n : ℕ} (hn : n < 1000) :
    IntOp.minsi 126#32 (IntOp.maxsi 0#32 (IntOp.subi (BitVec.ofNat 32 n) 1#32)) = BitVec.ofNat 32 (min (n - 1) 126) := by
  rcases Nat.eq_zero_or_pos n with rfl | h
  · rfl
  · have e : IntOp.subi (BitVec.ofNat 32 n) 1#32 = BitVec.ofNat 32 (n - 1) := by
      change BitVec.ofNat 32 n - BitVec.ofNat 32 1 = _
      apply BitVec.eq_of_toNat_eq
      rw [BitVec.toNat_sub, BitVec.toNat_ofNat, BitVec.toNat_ofNat, BitVec.toNat_ofNat]
      omega
    rw [e]
    refine (Routing.clip_word (x := n - 1) (lo := 0) (hi := 126) (by omega) (by omega) (by omega)).trans ?_
    rw [Nat.max_eq_left (Nat.zero_le _)]

variable (V : Valuation τ sig (Elt Ideal))

/-- The second derivatives at all knots. -/
theorem v51_at (D : ℕ → ℕ → ℝ) (h0 : ∀ x, D x 0 = 0) (hl : ∀ x, D x 127 = 0)
    (hs : ∀ (i : Fin 126) (x : Fin 1024), (V (Proc.devRef .tc main_v48_2) : FVec Ideal S126x1150 .f32) (ix2 i ⟨126 + (x : ℕ), by omega⟩)
      = ((D x (i + 1) : ℝ) : EReal)) (a : Fin 128) (x : Fin 1024) :
    (StableHlo.after hostOps0_10 V (Proc.devRef .tc main_v51) : FVec Ideal S128x1024 .f32) (ix2 a x) = ((D x a : ℝ) : EReal) := by
  have h50 : ∀ (i : Fin 1) (y : Fin 1024), (StableHlo.after hostOps0_10 V (Proc.devRef .tc main_v50) : FVec Ideal S1x1024 .f32) (ix2 i y) = ((0 : ℝ) : EReal) := by
    intro i y
    after_reads_simp
    pointwise []
    exact EReal.coe_zero.symm
  have h49 : ∀ (i : Fin 126) (y : Fin 1024), (StableHlo.after hostOps0_10 V (Proc.devRef .tc main_v49) : FVec Ideal S126x1024 .f32) (ix2 i y)
      = ((D y (i + 1) : ℝ) : EReal) := by
    intro i y
    after_reads_simp
    pointwise []
    exact hs i y
  have h : (StableHlo.after hostOps0_10 V (Proc.devRef .tc main_v51) : FVec Ideal S128x1024 .f32)
      = concatenate S128x1024 0 [⟨S1x1024, (StableHlo.after hostOps0_10 V (Proc.devRef .tc main_v50) : FVec Ideal S1x1024 .f32)⟩,
          ⟨S126x1024, (StableHlo.after hostOps0_10 V (Proc.devRef .tc main_v49) : FVec Ideal S126x1024 .f32)⟩,
          ⟨S1x1024, (StableHlo.after hostOps0_10 V (Proc.devRef .tc main_v50) : FVec Ideal S1x1024 .f32)⟩]
          concatenates_S1x1024_S126x1024_S1x1024_S128x1024_d0 := by
    after_reads_simp
    dsimp only [Matrix.cons_val_zero, Matrix.cons_val_one, Matrix.cons_val]
    rfl
  rw [h]
  pointwise []
  by_cases h1 : (a : ℕ) < 1
  · rw [dif_pos h1, h50, show (a : ℕ) = 0 by omega, h0]
  · rw [dif_neg h1]
    by_cases h2 : (a : ℕ) - 1 < 126
    · rw [dif_pos h2, h49, show ((⟨(a : ℕ) - 1, h2⟩ : Fin 126) : ℕ) + 1 = (a : ℕ) by
        show (a : ℕ) - 1 + 1 = (a : ℕ)
        omega]
    · rw [dif_neg h2, h50, show (a : ℕ) = 127 by omega, hl]

/-- The bits "this knot is at or below this point". -/
theorem v56_at (T : ℕ → ℝ)
    (hT : ∀ i : Fin 8192, (V (Proc.devRef .tc main_v1) : FVec Ideal S8192 .f32) (ix1 i) = ((T i : ℝ) : EReal))
    (h2 : ∀ k : Fin 128, (V (Proc.devRef .tc main_v2) : FVec Ideal S128 .f32) (ix1 k) = (((k : ℕ) / 127 : ℝ) : EReal))
    (i : Fin 8192) (q : Fin 128) :
    (StableHlo.after hostOps0_10 V (Proc.devRef .tc main_v56) : IVec S8192x128 1) (ix2 i q) = 1#1 ↔ ((q : ℕ) / 127 : ℝ) ≤ T i := by
  after_reads_simp
  pointwise []
  rw [hT, h2, ← EReal.coe_le_coe_iff]
  by_cases h : (((q : ℕ) / 127 : ℝ) : EReal) ≤ ((T i : ℝ) : EReal)
  · simp [h]
  · simp [h]
    exact show ¬ (0#1 : BitVec 1) = 1#1 by decide

/-- The number of knots at or below each point. -/
theorem v60_at (T : ℕ → ℝ)
    (hT : ∀ i : Fin 8192, (V (Proc.devRef .tc main_v1) : FVec Ideal S8192 .f32) (ix1 i) = ((T i : ℝ) : EReal))
    (h2 : ∀ k : Fin 128, (V (Proc.devRef .tc main_v2) : FVec Ideal S128 .f32) (ix1 k) = (((k : ℕ) / 127 : ℝ) : EReal))
    (i : Fin 8192) :
    (StableHlo.after hostOps0_10 V (Proc.devRef .tc main_v60) : IVec S8192 32) (ix1 i)
      = IntOp.subi (BitVec.ofNat 32 (Nat.count (fun q : ℕ => (q / 127 : ℝ) ≤ T i) 128)) 1#32 := by
  have h : (StableHlo.after hostOps0_10 V (Proc.devRef .tc main_v60) : IVec S8192 32)
      = subi (Host.reduce IntOp.addi (extui 32 (StableHlo.after hostOps0_10 V (Proc.devRef .tc main_v56) : IVec S8192x128 1) natLt_1_32)
          (constantI S_ 32 0#32) reducesTo_S8192x128_S8192_d1 h_S_)
        (broadcastInDim S8192 ![] bcast_S_S8192 (constantI S_ 32 1#32)) := by
    after_reads_simp
  rw [h]
  have hc := Routing.reduce_count (n := 8192) (m := 128) (by norm_num)
    (StableHlo.after hostOps0_10 V (Proc.devRef .tc main_v56) : IVec S8192x128 1) natLt_1_32
    reducesTo_S8192x128_S8192_d1 h_S_ i (fun q : ℕ => (q / 127 : ℝ) ≤ T i) (fun q => v56_at V T hT h2 i q)
  exact congrArg (fun w => IntOp.subi w 1#32) hc

/-- The clipped count. -/
theorem v61_at {n : ℕ} (hn : n < 1000) (i : Fin 8192)
    (h : (V (Proc.devRef .tc main_v60) : IVec S8192 32) (ix1 i) = IntOp.subi (BitVec.ofNat 32 n) 1#32)
    (h0 : (V (Proc.devRef .tc main_c_13) : IVec S_ 32) = constantI S_ 32 0#32)
    (h1 : (V (Proc.devRef .tc main_c_14) : IVec S_ 32) = constantI S_ 32 126#32) :
    (StableHlo.after hostOps0_11 V (Proc.devRef .tc main_v61) : IVec S8192 32) (ix1 i) = BitVec.ofNat 32 (min (n - 1) 126) := by
  after_reads_simp
  simp -implicitDefEqProofs only [StableHlo.TRef.toBuf, StableHlo.TRef.ofBuf, cast_eq]
  pointwise []
  simp only [id_eq]
  rw [h, h0, h1]
  exact clip_words hn

/-- The clipping's bounds. -/
theorem bounds_eq : (StableHlo.after hostOps0_10 V (Proc.devRef .tc main_c_13) : IVec S_ 32) = constantI S_ 32 0#32
    ∧ (StableHlo.after hostOps0_10 V (Proc.devRef .tc main_c_14) : IVec S_ 32) = constantI S_ 32 126#32 := by
  constructor
  · after_reads_simp
  · after_reads_simp

/-! ## Reading the tables -/

/-- An entry of the knots' list at a number held as a word. -/
theorem take1 (x : FVec Ideal S128 .f32) (w : IVec S8192 32) (i : Fin 8192) {k : ℕ} (hk : k < 128) (h : w (ix1 i) = BitVec.ofNat 32 k) :
    Host.gather gather_S128_S8192x1_S8192_n_0_n_n_0_1_1 x (broadcastInDim S8192x1 ![0] bcast_S8192_S8192x1_0 w) (ix1 i)
      = x (ix1 ⟨k, hk⟩) := by
  refine Routing.take_ap _ rfl rfl rfl rfl x _ i hk (by omega) (Eq.trans ?_ h)
  change broadcastInDim S8192x1 ![0] bcast_S8192_S8192x1_0 w (ix2 i 0) = _
  pointwise []

/-- A row of a table at a number held as a word. -/
theorem take2 (x : FVec Ideal S128x1024 .f32) (w : IVec S8192 32) (i : Fin 8192) (b : Fin 1024) {k : ℕ} (hk : k < 128)
    (h : w (ix1 i) = BitVec.ofNat 32 k) :
    Host.gather gather_S128x1024_S8192x1_S8192x1024_1_0_n_n_0_1_11024 x (broadcastInDim S8192x1 ![0] bcast_S8192_S8192x1_0 w) (ix2 i b)
      = x (ix2 ⟨k, hk⟩ b) := by
  refine Routing.gather_row _ rfl rfl rfl rfl rfl x _ i b ⟨k, hk⟩ (Eq.trans ?_ h) (by norm_num)
  change broadcastInDim S8192x1 ![0] bcast_S8192_S8192x1_0 w (ix2 i 0) = _
  pointwise []

variable (i : Fin 8192) {s : ℕ} (hs : s ≤ 126)

include hs in
/-- The knot on the left. -/
theorem v62_at (h2 : ∀ k : Fin 128, (V (Proc.devRef .tc main_v2) : FVec Ideal S128 .f32) (ix1 k) = (((k : ℕ) / 127 : ℝ) : EReal))
    (hw : (V (Proc.devRef .tc main_v61) : IVec S8192 32) (ix1 i) = BitVec.ofNat 32 s) :
    (StableHlo.after hostOps0_12 V (Proc.devRef .tc main_v62) : FVec Ideal S8192 .f32) (ix1 i) = (((s / 127 : ℝ) : ℝ) : EReal) := by
  have h : (StableHlo.after hostOps0_12 V (Proc.devRef .tc main_v62) : FVec Ideal S8192 .f32)
      = Host.gather gather_S128_S8192x1_S8192_n_0_n_n_0_1_1 (V (Proc.devRef .tc main_v2) : FVec Ideal S128 .f32)
          (broadcastInDim S8192x1 ![0] bcast_S8192_S8192x1_0 (V (Proc.devRef .tc main_v61) : IVec S8192 32)) := by
    after_reads_simp
    simp -implicitDefEqProofs only [StableHlo.TRef.toBuf, StableHlo.TRef.ofBuf, cast_eq]
  rw [h]
  exact (take1 _ _ i (show s < 128 by omega) hw).trans (h2 _)

/-- The next knot's number. -/
theorem v64_at (hw : (V (Proc.devRef .tc main_v61) : IVec S8192 32) (ix1 i) = BitVec.ofNat 32 s) :
    (StableHlo.after hostOps0_13 V (Proc.devRef .tc main_v64) : IVec S8192 32) (ix1 i) = BitVec.ofNat 32 (s + 1) := by
  after_reads_simp
  pointwise []
  rw [hw]
  exact (BitVec.ofNat_add _ _).symm

include hs in
/-- The knot on the right. -/
theorem v65_at (h2 : ∀ k : Fin 128, (V (Proc.devRef .tc main_v2) : FVec Ideal S128 .f32) (ix1 k) = (((k : ℕ) / 127 : ℝ) : EReal))
    (hw : (V (Proc.devRef .tc main_v64) : IVec S8192 32) (ix1 i) = BitVec.ofNat 32 (s + 1)) :
    (StableHlo.after hostOps0_14 V (Proc.devRef .tc main_v65) : FVec Ideal S8192 .f32) (ix1 i) = ((((s + 1 : ℕ) / 127 : ℝ) : ℝ) : EReal) := by
  have h : (StableHlo.after hostOps0_14 V (Proc.devRef .tc main_v65) : FVec Ideal S8192 .f32)
      = Host.gather gather_S128_S8192x1_S8192_n_0_n_n_0_1_1 (V (Proc.devRef .tc main_v2) : FVec Ideal S128 .f32)
          (broadcastInDim S8192x1 ![0] bcast_S8192_S8192x1_0 (V (Proc.devRef .tc main_v64) : IVec S8192 32)) := by
    after_reads_simp
    simp -implicitDefEqProofs only [StableHlo.TRef.toBuf, StableHlo.TRef.ofBuf, cast_eq]
  rw [h]
  exact (take1 _ _ i (show (s + 1) < 128 by omega) hw).trans (h2 _)

/-- The segment's length. -/
theorem v67_at {a b : ℝ} (ha : (V (Proc.devRef .tc main_v65) : FVec Ideal S8192 .f32) (ix1 i) = ((a : ℝ) : EReal))
    (hb : (V (Proc.devRef .tc main_v62) : FVec Ideal S8192 .f32) (ix1 i) = ((b : ℝ) : EReal)) :
    (StableHlo.after hostOps0_15 V (Proc.devRef .tc main_v67) : FVec Ideal S8192x1 .f32) (ix2 i 0) = ((a - b : ℝ) : EReal) := by
  after_reads_simp
  pointwise []
  rw [ha, hb, EReal.coe_sub]

include hs in
/-- The value at the left knot. -/
theorem v68_at (Y : ℕ → ℕ → ℝ)
    (hY : ∀ (a : Fin 128) (x : Fin 1024), (V (Proc.devRef .tc main_v17) : FVec Ideal S128x1024 .f32) (ix2 a x) = ((Y x a : ℝ) : EReal))
    (hw : (V (Proc.devRef .tc main_v61) : IVec S8192 32) (ix1 i) = BitVec.ofNat 32 s) (b : Fin 1024) :
    (StableHlo.after hostOps0_16 V (Proc.devRef .tc main_v68) : FVec Ideal S8192x1024 .f32) (ix2 i b) = ((Y b s : ℝ) : EReal) := by
  have h : (StableHlo.after hostOps0_16 V (Proc.devRef .tc main_v68) : FVec Ideal S8192x1024 .f32)
      = Host.gather gather_S128x1024_S8192x1_S8192x1024_1_0_n_n_0_1_11024 (V (Proc.devRef .tc main_v17) : FVec Ideal S128x1024 .f32)
          (broadcastInDim S8192x1 ![0] bcast_S8192_S8192x1_0 (V (Proc.devRef .tc main_v61) : IVec S8192 32)) := by
    after_reads_simp
    simp -implicitDefEqProofs only [StableHlo.TRef.toBuf, StableHlo.TRef.ofBuf, cast_eq]
  rw [h]
  exact (take2 _ _ i b (show s < 128 by omega) hw).trans (hY _ b)

/-- The next knot's number, again. -/
theorem v70_at (hw : (V (Proc.devRef .tc main_v61) : IVec S8192 32) (ix1 i) = BitVec.ofNat 32 s) :
    (StableHlo.after hostOps0_17 V (Proc.devRef .tc main_v70) : IVec S8192 32) (ix1 i) = BitVec.ofNat 32 (s + 1) := by
  after_reads_simp
  pointwise []
  rw [hw]
  exact (BitVec.ofNat_add _ _).symm

include hs in
/-- The value at the right knot. -/
theorem v71_at (Y : ℕ → ℕ → ℝ)
    (hY : ∀ (a : Fin 128) (x : Fin 1024), (V (Proc.devRef .tc main_v17) : FVec Ideal S128x1024 .f32) (ix2 a x) = ((Y x a : ℝ) : EReal))
    (hw : (V (Proc.devRef .tc main_v70) : IVec S8192 32) (ix1 i) = BitVec.ofNat 32 (s + 1)) (b : Fin 1024) :
    (StableHlo.after hostOps0_18 V (Proc.devRef .tc main_v71) : FVec Ideal S8192x1024 .f32) (ix2 i b) = ((Y b (s + 1) : ℝ) : EReal) := by
  have h : (StableHlo.after hostOps0_18 V (Proc.devRef .tc main_v71) : FVec Ideal S8192x1024 .f32)
      = Host.gather gather_S128x1024_S8192x1_S8192x1024_1_0_n_n_0_1_11024 (V (Proc.devRef .tc main_v17) : FVec Ideal S128x1024 .f32)
          (broadcastInDim S8192x1 ![0] bcast_S8192_S8192x1_0 (V (Proc.devRef .tc main_v70) : IVec S8192 32)) := by
    after_reads_simp
    simp -implicitDefEqProofs only [StableHlo.TRef.toBuf, StableHlo.TRef.ofBuf, cast_eq]
  rw [h]
  exact (take2 _ _ i b (show (s + 1) < 128 by omega) hw).trans (hY _ b)

include hs in
/-- The second derivative at the left knot. -/
theorem v72_at (Y : ℕ → ℕ → ℝ)
    (hY : ∀ (a : Fin 128) (x : Fin 1024), (V (Proc.devRef .tc main_v51) : FVec Ideal S128x1024 .f32) (ix2 a x) = ((Y x a : ℝ) : EReal))
    (hw : (V (Proc.devRef .tc main_v61) : IVec S8192 32) (ix1 i) = BitVec.ofNat 32 s) (b : Fin 1024) :
    (StableHlo.after hostOps0_19 V (Proc.devRef .tc main_v72) : FVec Ideal S8192x1024 .f32) (ix2 i b) = ((Y b s : ℝ) : EReal) := by
  have h : (StableHlo.after hostOps0_19 V (Proc.devRef .tc main_v72) : FVec Ideal S8192x1024 .f32)
      = Host.gather gather_S128x1024_S8192x1_S8192x1024_1_0_n_n_0_1_11024 (V (Proc.devRef .tc main_v51) : FVec Ideal S128x1024 .f32)
          (broadcastInDim S8192x1 ![0] bcast_S8192_S8192x1_0 (V (Proc.devRef .tc main_v61) : IVec S8192 32)) := by
    after_reads_simp
    simp -implicitDefEqProofs only [StableHlo.TRef.toBuf, StableHlo.TRef.ofBuf, cast_eq]
  rw [h]
  exact (take2 _ _ i b (show s < 128 by omega) hw).trans (hY _ b)

/-- The next knot's number, a third time. -/
theorem v74_at (hw : (V (Proc.devRef .tc main_v61) : IVec S8192 32) (ix1 i) = BitVec.ofNat 32 s) :
    (StableHlo.after hostOps0_20 V (Proc.devRef .tc main_v74) : IVec S8192 32) (ix1 i) = BitVec.ofNat 32 (s + 1) := by
  after_reads_simp
  pointwise []
  rw [hw]
  exact (BitVec.ofNat_add _ _).symm

include hs in
/-- The second derivative at the right knot. -/
theorem v75_at (Y : ℕ → ℕ → ℝ)
    (hY : ∀ (a : Fin 128) (x : Fin 1024), (V (Proc.devRef .tc main_v51) : FVec Ideal S128x1024 .f32) (ix2 a x) = ((Y x a : ℝ) : EReal))
    (hw : (V (Proc.devRef .tc main_v74) : IVec S8192 32) (ix1 i) = BitVec.ofNat 32 (s + 1)) (b : Fin 1024) :
    (StableHlo.after hostOps0_21 V (Proc.devRef .tc main_v75) : FVec Ideal S8192x1024 .f32) (ix2 i b) = ((Y b (s + 1) : ℝ) : EReal) := by
  have h : (StableHlo.after hostOps0_21 V (Proc.devRef .tc main_v75) : FVec Ideal S8192x1024 .f32)
      = Host.gather gather_S128x1024_S8192x1_S8192x1024_1_0_n_n_0_1_11024 (V (Proc.devRef .tc main_v51) : FVec Ideal S128x1024 .f32)
          (broadcastInDim S8192x1 ![0] bcast_S8192_S8192x1_0 (V (Proc.devRef .tc main_v74) : IVec S8192 32)) := by
    after_reads_simp
    simp -implicitDefEqProofs only [StableHlo.TRef.toBuf, StableHlo.TRef.ofBuf, cast_eq]
  rw [h]
  exact (take2 _ _ i b (show (s + 1) < 128 by omega) hw).trans (hY _ b)

/-- The cubic between two knots. -/
theorem v112_at (b : Fin 1024) {t x0 x1 h y0 y1 d0 d1 : ℝ} (hh : h ≠ 0)
    (ht : (V (Proc.devRef .tc main_v1) : FVec Ideal S8192 .f32) (ix1 i) = ((t : ℝ) : EReal))
    (hx0 : (V (Proc.devRef .tc main_v62) : FVec Ideal S8192 .f32) (ix1 i) = ((x0 : ℝ) : EReal))
    (hx1 : (V (Proc.devRef .tc main_v65) : FVec Ideal S8192 .f32) (ix1 i) = ((x1 : ℝ) : EReal))
    (hl : (V (Proc.devRef .tc main_v67) : FVec Ideal S8192x1 .f32) (ix2 i 0) = ((h : ℝ) : EReal))
    (hy0 : (V (Proc.devRef .tc main_v68) : FVec Ideal S8192x1024 .f32) (ix2 i b) = ((y0 : ℝ) : EReal))
    (hy1 : (V (Proc.devRef .tc main_v71) : FVec Ideal S8192x1024 .f32) (ix2 i b) = ((y1 : ℝ) : EReal))
    (hd0 : (V (Proc.devRef .tc main_v72) : FVec Ideal S8192x1024 .f32) (ix2 i b) = ((d0 : ℝ) : EReal))
    (hd1 : (V (Proc.devRef .tc main_v75) : FVec Ideal S8192x1024 .f32) (ix2 i b) = ((d1 : ℝ) : EReal)) :
    (StableHlo.after hostOps0_22 V (Proc.devRef .tc main_v112) : FVec Ideal S8192x1024 .f32) (ix2 i b)
      = (((d0 * ((x1 - t) * (x1 - t) * (x1 - t)) + d1 * ((t - x0) * (t - x0) * (t - x0))) / (6 * h)
          + (y0 / h - d0 * h / 6) * (x1 - t) + (y1 / h - d1 * h / 6) * (t - x0) : ℝ) : EReal) := by
  after_reads_simp
  pointwise []
  rw [ht, hx0, hx1, hy0, hy1, hd0, hd1, Cert.Spline.ofBits_6]
  erw [hl]
  simp only [← EReal.coe_sub, ← EReal.coe_mul, ← EReal.coe_add]
  rw [Cert.Spline.div_real (by positivity), Cert.Spline.div_real hh, Cert.Spline.div_real (by norm_num), Cert.Spline.div_real hh,
    Cert.Spline.div_real (by norm_num)]
  simp only [← EReal.coe_sub, ← EReal.coe_mul, ← EReal.coe_add]

/-- The means' channels, reshaped. -/
theorem v114_eq : (StableHlo.after hostOps0_22 V (Proc.devRef .tc main_v114) : FVec Ideal S8192x8x64 .f32)
    = shapeCast S8192x8x64 (extractStridedSlice S8192x512 ![0, 0]
        (StableHlo.after hostOps0_22 V (Proc.devRef .tc main_v112) : FVec Ideal S8192x1024 .f32) slices_S8192x1024_S8192x512_0_0)
        shapeCasts_S8192x512_S8192x8x64 := by
  after_reads_simp
  rfl

/-- The deviations' channels, reshaped and exponentiated. -/
theorem v117_eq (j : S8192x8x64.Idx) : (StableHlo.after hostOps0_22 V (Proc.devRef .tc main_v117) : FVec Ideal S8192x8x64 .f32) j
    = Ideal.exp ((shapeCast S8192x8x64 (extractStridedSlice S8192x512 ![0, 512]
        (StableHlo.after hostOps0_22 V (Proc.devRef .tc main_v112) : FVec Ideal S8192x1024 .f32) slices_S8192x1024_S8192x512_0_512)
        shapeCasts_S8192x512_S8192x8x64 : FVec Ideal S8192x8x64 .f32) j) := by
  after_reads_simp
  rfl

end Cert.ReferenceIdeal.Value
-- ==== Proof.RValue.lean ====
/-
  The reference's results: each is the cubic spline through the given values, at the given points.
-/
module

public import proofs.«01_k».proof.Proof.RLoop
public import proofs.«01_k».proof.Proof.RPost

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spline (both mtab seg seg_le cubic)

variable (m : (ℓ : Loc nD τ sig) → Buf (Elt Ideal) ℓ) (c : Dev nD)

/-! ## What the parts after the loop write -/

/-- The buffers written by this part. -/
abbrev hostOps0_10_W : List (Ref sig .tc) := [main_v49, main_cst_10, main_v50, main_v51, main_v52, main_v53, main_v54, main_v55, main_v56, main_v57, main_c_11, main_v58, main_c_12, main_v59, main_v60, main_c_13, main_c_14]
/-- It writes no others. -/
theorem hostOps0_10_writes : (hostOps0_10 : List (HloOp τ sig (Elt Ideal))).Forall fun op => op.writes ⊆ (hostOps0_10_W.map (Proc.devRef (τ := τ) .tc)).toFinset :=
  StableHlo.forall_writes_sub_of_map rfl

/-- The buffers written by this part. -/
abbrev hostOps0_11_W : List (Ref sig .tc) := [main_call5_v0, main_call5_v1, main_call5_v2, main_call5_v3, main_call5_v4, main_v61]
/-- It writes no others. -/
theorem hostOps0_11_writes : (hostOps0_11 : List (HloOp τ sig (Elt Ideal))).Forall fun op => op.writes ⊆ (hostOps0_11_W.map (Proc.devRef (τ := τ) .tc)).toFinset :=
  StableHlo.forall_writes_sub_of_map rfl

/-- The buffers written by this part. -/
abbrev hostOps0_12_W : List (Ref sig .tc) := [main_call6_v0, main_v62]
/-- It writes no others. -/
theorem hostOps0_12_writes : (hostOps0_12 : List (HloOp τ sig (Elt Ideal))).Forall fun op => op.writes ⊆ (hostOps0_12_W.map (Proc.devRef (τ := τ) .tc)).toFinset :=
  StableHlo.forall_writes_sub_of_map rfl

/-- The buffers written by this part. -/
abbrev hostOps0_13_W : List (Ref sig .tc) := [main_c_15, main_v63, main_v64]
/-- It writes no others. -/
theorem hostOps0_13_writes : (hostOps0_13 : List (HloOp τ sig (Elt Ideal))).Forall fun op => op.writes ⊆ (hostOps0_13_W.map (Proc.devRef (τ := τ) .tc)).toFinset :=
  StableHlo.forall_writes_sub_of_map rfl

/-- The buffers written by this part. -/
abbrev hostOps0_14_W : List (Ref sig .tc) := [main_call7_v0, main_v65]
/-- It writes no others. -/
theorem hostOps0_14_writes : (hostOps0_14 : List (HloOp τ sig (Elt Ideal))).Forall fun op => op.writes ⊆ (hostOps0_14_W.map (Proc.devRef (τ := τ) .tc)).toFinset :=
  StableHlo.forall_writes_sub_of_map rfl

/-- The buffers written by this part. -/
abbrev hostOps0_15_W : List (Ref sig .tc) := [main_v66, main_v67]
/-- It writes no others. -/
theorem hostOps0_15_writes : (hostOps0_15 : List (HloOp τ sig (Elt Ideal))).Forall fun op => op.writes ⊆ (hostOps0_15_W.map (Proc.devRef (τ := τ) .tc)).toFinset :=
  StableHlo.forall_writes_sub_of_map rfl

/-- The buffers written by this part. -/
abbrev hostOps0_16_W : List (Ref sig .tc) := [main_call8_v0, main_v68]
/-- It writes no others. -/
theorem hostOps0_16_writes : (hostOps0_16 : List (HloOp τ sig (Elt Ideal))).Forall fun op => op.writes ⊆ (hostOps0_16_W.map (Proc.devRef (τ := τ) .tc)).toFinset :=
  StableHlo.forall_writes_sub_of_map rfl

/-- The buffers written by this part. -/
abbrev hostOps0_17_W : List (Ref sig .tc) := [main_c_16, main_v69, main_v70]
/-- It writes no others. -/
theorem hostOps0_17_writes : (hostOps0_17 : List (HloOp τ sig (Elt Ideal))).Forall fun op => op.writes ⊆ (hostOps0_17_W.map (Proc.devRef (τ := τ) .tc)).toFinset :=
  StableHlo.forall_writes_sub_of_map rfl

/-- The buffers written by this part. -/
abbrev hostOps0_18_W : List (Ref sig .tc) := [main_call9_v0, main_v71]
/-- It writes no others. -/
theorem hostOps0_18_writes : (hostOps0_18 : List (HloOp τ sig (Elt Ideal))).Forall fun op => op.writes ⊆ (hostOps0_18_W.map (Proc.devRef (τ := τ) .tc)).toFinset :=
  StableHlo.forall_writes_sub_of_map rfl

/-- The buffers written by this part. -/
abbrev hostOps0_19_W : List (Ref sig .tc) := [main_call10_v0, main_v72]
/-- It writes no others. -/
theorem hostOps0_19_writes : (hostOps0_19 : List (HloOp τ sig (Elt Ideal))).Forall fun op => op.writes ⊆ (hostOps0_19_W.map (Proc.devRef (τ := τ) .tc)).toFinset :=
  StableHlo.forall_writes_sub_of_map rfl

/-- The buffers written by this part. -/
abbrev hostOps0_20_W : List (Ref sig .tc) := [main_c_17, main_v73, main_v74]
/-- It writes no others. -/
theorem hostOps0_20_writes : (hostOps0_20 : List (HloOp τ sig (Elt Ideal))).Forall fun op => op.writes ⊆ (hostOps0_20_W.map (Proc.devRef (τ := τ) .tc)).toFinset :=
  StableHlo.forall_writes_sub_of_map rfl

/-- The buffers written by this part. -/
abbrev hostOps0_21_W : List (Ref sig .tc) := [main_call11_v0, main_v75]
/-- It writes no others. -/
theorem hostOps0_21_writes : (hostOps0_21 : List (HloOp τ sig (Elt Ideal))).Forall fun op => op.writes ⊆ (hostOps0_21_W.map (Proc.devRef (τ := τ) .tc)).toFinset :=
  StableHlo.forall_writes_sub_of_map rfl

/-- The buffers written by this part. -/
abbrev hostOps0_22_W : List (Ref sig .tc) := [main_v76, main_v77, main_v78, main_v79, main_v80, main_v81, main_v82, main_v83, main_v84, main_v85, main_v86, main_v87, main_v88, main_cst_18, main_v89, main_v90, main_v91, main_v92, main_v93, main_v94, main_v95, main_v96, main_cst_19, main_v97, main_v98, main_v99, main_v100, main_v101, main_v102, main_v103, main_v104, main_v105, main_v106, main_cst_20, main_v107, main_v108, main_v109, main_v110, main_v111, main_v112, main_v113, main_v114, main_v115, main_v116, main_v117]
/-- It writes no others. -/
theorem hostOps0_22_writes : (hostOps0_22 : List (HloOp τ sig (Elt Ideal))).Forall fun op => op.writes ⊆ (hostOps0_22_W.map (Proc.devRef (τ := τ) .tc)).toFinset :=
  StableHlo.forall_writes_sub_of_map rfl

/-! ## The parts after the loop -/

/-- The contents after the loop. -/
def Z : Valuation τ sig (Elt Ideal) := StableHlo.after condOps (atK m 126 c)
/-- The contents after the points' segments. -/
def C11 : Valuation τ sig (Elt Ideal) := StableHlo.after hostOps0_11 (StableHlo.after hostOps0_10 (Z m c))
/-- The contents after the segments' ends. -/
def C14 : Valuation τ sig (Elt Ideal) :=
  StableHlo.after hostOps0_14 (StableHlo.after hostOps0_13 (StableHlo.after hostOps0_12 (C11 m c)))
/-- The contents after the values at the ends. -/
def C18 : Valuation τ sig (Elt Ideal) :=
  StableHlo.after hostOps0_18 (StableHlo.after hostOps0_17 (StableHlo.after hostOps0_16 (StableHlo.after hostOps0_15 (C14 m c))))
/-- The contents after the second derivatives at the ends. -/
def C21 : Valuation τ sig (Elt Ideal) :=
  StableHlo.after hostOps0_21 (StableHlo.after hostOps0_20 (StableHlo.after hostOps0_19 (C18 m c)))
/-- The contents at the end. -/
def C22 : Valuation τ sig (Elt Ideal) := StableHlo.after hostOps0_22 (C21 m c)

/-- They are the run's. -/
theorem final_eq : StableHlo.finalContents condOps preI bodyI postI 126 m c = C22 m c := rfl

/-- What the loop does not write. -/
theorem atK_keep (r : Ref sig .tc) (h0 : r ∉ while0Ops0_W) (h1 : r ∉ condOps_W) :
    ∀ k, atK m k c (Proc.devRef .tc r) = B9 m c (Proc.devRef .tc r)
  | 0 => rfl
  | k + 1 => by
    rw [show atK m (k + 1) c = StableHlo.after while0Ops0 (StableHlo.after condOps (atK m k c)) from rfl,
      StableHlo.after_of_writes_sub while0Ops0 _ while0Ops0_writes h0, StableHlo.after_of_writes_sub condOps _ condOps_writes h1,
      atK_keep r h0 h1 k]

/-- What neither the loop nor its condition writes. -/
theorem Z_keep (r : Ref sig .tc) (h0 : r ∉ while0Ops0_W) (h1 : r ∉ condOps_W) : Z m c (Proc.devRef .tc r) = B9 m c (Proc.devRef .tc r) :=
  (StableHlo.after_of_writes_sub condOps _ condOps_writes h1).trans (atK_keep m c r h0 h1 126)

/-- What the segments' part leaves as it was. -/
theorem C11_keep (r : Ref sig .tc) (h0 : r ∉ hostOps0_10_W) (h1 : r ∉ hostOps0_11_W) :
    C11 m c (Proc.devRef .tc r) = Z m c (Proc.devRef .tc r) :=
  (StableHlo.after_of_writes_sub hostOps0_11 _ hostOps0_11_writes h1).trans (StableHlo.after_of_writes_sub hostOps0_10 _ hostOps0_10_writes h0)

/-- What the part with the segments' ends leaves as it was. -/
theorem C14_keep (r : Ref sig .tc) (h0 : r ∉ hostOps0_12_W) (h1 : r ∉ hostOps0_13_W) (h2 : r ∉ hostOps0_14_W) :
    C14 m c (Proc.devRef .tc r) = C11 m c (Proc.devRef .tc r) :=
  (StableHlo.after_of_writes_sub hostOps0_14 _ hostOps0_14_writes h2).trans
    ((StableHlo.after_of_writes_sub hostOps0_13 _ hostOps0_13_writes h1).trans (StableHlo.after_of_writes_sub hostOps0_12 _ hostOps0_12_writes h0))

/-- What the part with the values leaves as it was. -/
theorem C18_keep (r : Ref sig .tc) (h0 : r ∉ hostOps0_15_W) (h1 : r ∉ hostOps0_16_W) (h2 : r ∉ hostOps0_17_W) (h3 : r ∉ hostOps0_18_W) :
    C18 m c (Proc.devRef .tc r) = C14 m c (Proc.devRef .tc r) :=
  (StableHlo.after_of_writes_sub hostOps0_18 _ hostOps0_18_writes h3).trans
    ((StableHlo.after_of_writes_sub hostOps0_17 _ hostOps0_17_writes h2).trans
      ((StableHlo.after_of_writes_sub hostOps0_16 _ hostOps0_16_writes h1).trans (StableHlo.after_of_writes_sub hostOps0_15 _ hostOps0_15_writes h0)))

/-- What the part with the second derivatives leaves as it was. -/
theorem C21_keep (r : Ref sig .tc) (h0 : r ∉ hostOps0_19_W) (h1 : r ∉ hostOps0_20_W) (h2 : r ∉ hostOps0_21_W) :
    C21 m c (Proc.devRef .tc r) = C18 m c (Proc.devRef .tc r) :=
  (StableHlo.after_of_writes_sub hostOps0_21 _ hostOps0_21_writes h2).trans
    ((StableHlo.after_of_writes_sub hostOps0_20 _ hostOps0_20_writes h1).trans (StableHlo.after_of_writes_sub hostOps0_19 _ hostOps0_19_writes h0))

/-- What the last part leaves as it was. -/
theorem C22_keep (r : Ref sig .tc) (h0 : r ∉ hostOps0_22_W) : C22 m c (Proc.devRef .tc r) = C21 m c (Proc.devRef .tc r) :=
  StableHlo.after_of_writes_sub hostOps0_22 _ hostOps0_22_writes h0

/-! ## The cubic -/

variable (T : ℕ → ℝ) (A S : ℕ → ℕ → ℝ)
    (hT : ∀ i : Fin 8192, (m (c.tc.loc main_arg0) : FVec Ideal S8192 .f32) (ix1 i) = ((T i : ℝ) : EReal))
    (hA : ∀ (i : Fin 126) (b : Fin 512), (m (c.tc.loc main_arg1) : FVec Ideal S126x512 .f32) (ix2 i b) = ((A b i : ℝ) : EReal))
    (hS : ∀ (i : Fin 126) (b : Fin 512), (m (c.tc.loc main_arg2) : FVec Ideal S126x512 .f32) (ix2 i b) = ((S b i : ℝ) : EReal))

/-- The reference's form of the cubic is the spline's. -/
theorem cubic_eq (t : ℝ) (Y D : ℕ → ℝ) :
    (D (seg t) * ((((seg t + 1 : ℕ) / 127 : ℝ) - t) * (((seg t + 1 : ℕ) / 127 : ℝ) - t) * (((seg t + 1 : ℕ) / 127 : ℝ) - t))
        + D (seg t + 1) * ((t - (seg t / 127 : ℝ)) * (t - (seg t / 127 : ℝ)) * (t - (seg t / 127 : ℝ))))
        / (6 * (((seg t + 1 : ℕ) / 127 : ℝ) - (seg t / 127 : ℝ)))
      + (Y (seg t) / (((seg t + 1 : ℕ) / 127 : ℝ) - (seg t / 127 : ℝ)) - D (seg t) * (((seg t + 1 : ℕ) / 127 : ℝ) - (seg t / 127 : ℝ)) / 6)
        * (((seg t + 1 : ℕ) / 127 : ℝ) - t)
      + (Y (seg t + 1) / (((seg t + 1 : ℕ) / 127 : ℝ) - (seg t / 127 : ℝ)) - D (seg t + 1) * (((seg t + 1 : ℕ) / 127 : ℝ) - (seg t / 127 : ℝ)) / 6)
        * (t - (seg t / 127 : ℝ)) = cubic t Y D := by
  unfold cubic
  dsimp only
  have e : (((seg t + 1 : ℕ) / 127 : ℝ) - (seg t / 127 : ℝ)) = 1 / 127 := by
    push_cast
    ring
  rw [e]
  push_cast
  field_simp
  ring

include hT in
/-- The points after the loop. -/
theorem Z_v1 (i : Fin 8192) : (Z m c (Proc.devRef .tc main_v1) : FVec Ideal S8192 .f32) (ix1 i) = ((T i : ℝ) : EReal) := by
  rw [Z_keep m c _ (by decide) (by decide)]
  exact entry_v1 m c T hT i

/-- The knots after the loop. -/
theorem Z_v2 (k : Fin 128) : (Z m c (Proc.devRef .tc main_v2) : FVec Ideal S128 .f32) (ix1 k) = (((k : ℕ) / 127 : ℝ) : EReal) := by
  rw [Z_keep m c _ (by decide) (by decide)]
  exact entry_v2 m c k

include hA hS in
/-- The values at the knots, after the segments' part. -/
theorem C11_v17 (a : Fin 128) (x : Fin 1024) :
    (C11 m c (Proc.devRef .tc main_v17) : FVec Ideal S128x1024 .f32) (ix2 a x) = ((both A S x a : ℝ) : EReal) := by
  rw [C11_keep m c _ (by decide) (by decide), Z_keep m c _ (by decide) (by decide)]
  exact entry_v17 m c A S hA hS a x

/-- The knots after the segments' part. -/
theorem C11_v2 (k : Fin 128) : (C11 m c (Proc.devRef .tc main_v2) : FVec Ideal S128 .f32) (ix1 k) = (((k : ℕ) / 127 : ℝ) : EReal) := by
  rw [C11_keep m c _ (by decide) (by decide)]
  exact Z_v2 m c k

include hA hS in
/-- The second derivatives at the knots, after the segments' part. -/
theorem C11_v51 (a : Fin 128) (x : Fin 1024) :
    (C11 m c (Proc.devRef .tc main_v51) : FVec Ideal S128x1024 .f32) (ix2 a x) = ((mtab (both A S x) a : ℝ) : EReal) := by
  refine (congrFun (StableHlo.after_of_writes_sub hostOps0_11 _ hostOps0_11_writes (by decide)) _).trans ?_
  refine v51_at _ (fun x => mtab (both A S x)) (fun x => Cert.Spline.mtab_zero _) (fun x => Cert.Spline.mtab_last _) (fun i x => ?_) a x
  refine (congrFun (StableHlo.after_of_writes_sub condOps _ condOps_writes (by decide)) _).trans ?_
  exact solved_at m c A S hA hS i x

include hT in
/-- Each point's segment. -/
theorem C11_v61 (i : Fin 8192) : (C11 m c (Proc.devRef .tc main_v61) : IVec S8192 32) (ix1 i) = BitVec.ofNat 32 (seg (T i)) := by
  rw [← count_seg]
  exact v61_at _ (lt_of_le_of_lt (Nat.count_le _) (by norm_num : 128 < 1000)) i (v60_at _ T (Z_v1 m c T hT) (Z_v2 m c) i) (bounds_eq _).1 (bounds_eq _).2

include hT in
/-- The left ends. -/
theorem C14_v62 (i : Fin 8192) : (C14 m c (Proc.devRef .tc main_v62) : FVec Ideal S8192 .f32) (ix1 i) = ((seg (T i) / 127 : ℝ) : EReal) := by
  refine (congrFun (StableHlo.after_of_writes_sub hostOps0_14 _ hostOps0_14_writes (by decide)) _).trans ?_
  refine (congrFun (StableHlo.after_of_writes_sub hostOps0_13 _ hostOps0_13_writes (by decide)) _).trans ?_
  exact v62_at _ i (seg_le _) (C11_v2 m c) (C11_v61 m c T hT i)

include hT in
/-- The right ends. -/
theorem C14_v65 (i : Fin 8192) :
    (C14 m c (Proc.devRef .tc main_v65) : FVec Ideal S8192 .f32) (ix1 i) = (((seg (T i) + 1 : ℕ) / 127 : ℝ) : EReal) := by
  refine v65_at _ i (seg_le _) (fun k => ?_) (v64_at _ i ?_)
  · refine (congrFun (StableHlo.after_of_writes_sub hostOps0_13 _ hostOps0_13_writes (by decide)) _).trans ?_
    refine (congrFun (StableHlo.after_of_writes_sub hostOps0_12 _ hostOps0_12_writes (by decide)) _).trans ?_
    exact C11_v2 m c k
  · refine (congrFun (StableHlo.after_of_writes_sub hostOps0_12 _ hostOps0_12_writes (by decide)) _).trans ?_
    exact C11_v61 m c T hT i

include hT in
/-- The lengths. -/
theorem C18_v67 (i : Fin 8192) : (C18 m c (Proc.devRef .tc main_v67) : FVec Ideal S8192x1 .f32) (ix2 i 0)
    = ((((seg (T i) + 1 : ℕ) / 127 : ℝ) - (seg (T i) / 127 : ℝ) : ℝ) : EReal) := by
  refine (congrFun (StableHlo.after_of_writes_sub hostOps0_18 _ hostOps0_18_writes (by decide)) _).trans ?_
  refine (congrFun (StableHlo.after_of_writes_sub hostOps0_17 _ hostOps0_17_writes (by decide)) _).trans ?_
  refine (congrFun (StableHlo.after_of_writes_sub hostOps0_16 _ hostOps0_16_writes (by decide)) _).trans ?_
  exact v67_at _ i (C14_v65 m c T hT i) (C14_v62 m c T hT i)

include hT in
/-- Each point's segment, later. -/
theorem C14_v61 (i : Fin 8192) : (C14 m c (Proc.devRef .tc main_v61) : IVec S8192 32) (ix1 i) = BitVec.ofNat 32 (seg (T i)) := by
  rw [C14_keep m c _ (by decide) (by decide) (by decide)]
  exact C11_v61 m c T hT i

include hA hS in
/-- The values at the knots, later. -/
theorem C14_v17 (a : Fin 128) (x : Fin 1024) :
    (C14 m c (Proc.devRef .tc main_v17) : FVec Ideal S128x1024 .f32) (ix2 a x) = ((both A S x a : ℝ) : EReal) := by
  rw [C14_keep m c _ (by decide) (by decide) (by decide)]
  exact C11_v17 m c A S hA hS a x

include hT hA hS in
/-- The values at the left ends. -/
theorem C18_v68 (i : Fin 8192) (b : Fin 1024) :
    (C18 m c (Proc.devRef .tc main_v68) : FVec Ideal S8192x1024 .f32) (ix2 i b) = ((both A S b (seg (T i)) : ℝ) : EReal) := by
  refine (congrFun (StableHlo.after_of_writes_sub hostOps0_18 _ hostOps0_18_writes (by decide)) _).trans ?_
  refine (congrFun (StableHlo.after_of_writes_sub hostOps0_17 _ hostOps0_17_writes (by decide)) _).trans ?_
  refine v68_at _ i (seg_le _) (both A S) (fun a x => ?_) ?_ b
  · refine (congrFun (StableHlo.after_of_writes_sub hostOps0_15 _ hostOps0_15_writes (by decide)) _).trans ?_
    exact C14_v17 m c A S hA hS a x
  · refine (congrFun (StableHlo.after_of_writes_sub hostOps0_15 _ hostOps0_15_writes (by decide)) _).trans ?_
    exact C14_v61 m c T hT i

include hT hA hS in
/-- The values at the right ends. -/
theorem C18_v71 (i : Fin 8192) (b : Fin 1024) :
    (C18 m c (Proc.devRef .tc main_v71) : FVec Ideal S8192x1024 .f32) (ix2 i b) = ((both A S b (seg (T i) + 1) : ℝ) : EReal) := by
  refine v71_at _ i (seg_le _) (both A S) (fun a x => ?_) (v70_at _ i ?_) b
  · refine (congrFun (StableHlo.after_of_writes_sub hostOps0_17 _ hostOps0_17_writes (by decide)) _).trans ?_
    refine (congrFun (StableHlo.after_of_writes_sub hostOps0_16 _ hostOps0_16_writes (by decide)) _).trans ?_
    refine (congrFun (StableHlo.after_of_writes_sub hostOps0_15 _ hostOps0_15_writes (by decide)) _).trans ?_
    exact C14_v17 m c A S hA hS a x
  · refine (congrFun (StableHlo.after_of_writes_sub hostOps0_16 _ hostOps0_16_writes (by decide)) _).trans ?_
    refine (congrFun (StableHlo.after_of_writes_sub hostOps0_15 _ hostOps0_15_writes (by decide)) _).trans ?_
    exact C14_v61 m c T hT i

include hT in
/-- Each point's segment, later still. -/
theorem C18_v61 (i : Fin 8192) : (C18 m c (Proc.devRef .tc main_v61) : IVec S8192 32) (ix1 i) = BitVec.ofNat 32 (seg (T i)) := by
  rw [C18_keep m c _ (by decide) (by decide) (by decide) (by decide)]
  exact C14_v61 m c T hT i

include hA hS in
/-- The second derivatives at the knots, later. -/
theorem C18_v51 (a : Fin 128) (x : Fin 1024) :
    (C18 m c (Proc.devRef .tc main_v51) : FVec Ideal S128x1024 .f32) (ix2 a x) = ((mtab (both A S x) a : ℝ) : EReal) := by
  rw [C18_keep m c _ (by decide) (by decide) (by decide) (by decide), C14_keep m c _ (by decide) (by decide) (by decide)]
  exact C11_v51 m c A S hA hS a x

include hT hA hS in
/-- The second derivatives at the left ends. -/
theorem C21_v72 (i : Fin 8192) (b : Fin 1024) :
    (C21 m c (Proc.devRef .tc main_v72) : FVec Ideal S8192x1024 .f32) (ix2 i b) = ((mtab (both A S b) (seg (T i)) : ℝ) : EReal) := by
  refine (congrFun (StableHlo.after_of_writes_sub hostOps0_21 _ hostOps0_21_writes (by decide)) _).trans ?_
  refine (congrFun (StableHlo.after_of_writes_sub hostOps0_20 _ hostOps0_20_writes (by decide)) _).trans ?_
  exact v72_at _ i (seg_le _) (fun x => mtab (both A S x)) (C18_v51 m c A S hA hS) (C18_v61 m c T hT i) b

include hT hA hS in
/-- The second derivatives at the right ends. -/
theorem C21_v75 (i : Fin 8192) (b : Fin 1024) :
    (C21 m c (Proc.devRef .tc main_v75) : FVec Ideal S8192x1024 .f32) (ix2 i b) = ((mtab (both A S b) (seg (T i) + 1) : ℝ) : EReal) := by
  refine v75_at _ i (seg_le _) (fun x => mtab (both A S x)) (fun a x => ?_) (v74_at _ i ?_) b
  · refine (congrFun (StableHlo.after_of_writes_sub hostOps0_20 _ hostOps0_20_writes (by decide)) _).trans ?_
    refine (congrFun (StableHlo.after_of_writes_sub hostOps0_19 _ hostOps0_19_writes (by decide)) _).trans ?_
    exact C18_v51 m c A S hA hS a x
  · refine (congrFun (StableHlo.after_of_writes_sub hostOps0_19 _ hostOps0_19_writes (by decide)) _).trans ?_
    exact C18_v61 m c T hT i

include hT hA hS in
/-- The spline's values. -/
theorem C22_v112 (i : Fin 8192) (b : Fin 1024) :
    (C22 m c (Proc.devRef .tc main_v112) : FVec Ideal S8192x1024 .f32) (ix2 i b)
      = ((cubic (T i) (both A S b) (mtab (both A S b)) : ℝ) : EReal) := by
  rw [← cubic_eq]
  refine v112_at _ i b (t := T i) ?_ ?_ ?_ ?_ ?_ ?_ ?_ (C21_v72 m c T A S hT hA hS i b) (C21_v75 m c T A S hT hA hS i b)
  · push_cast
    ring_nf
    norm_num
  · rw [C21_keep m c _ (by decide) (by decide) (by decide), C18_keep m c _ (by decide) (by decide) (by decide) (by decide),
      C14_keep m c _ (by decide) (by decide) (by decide), C11_keep m c _ (by decide) (by decide)]
    exact Z_v1 m c T hT i
  · rw [C21_keep m c _ (by decide) (by decide) (by decide), C18_keep m c _ (by decide) (by decide) (by decide) (by decide)]
    exact C14_v62 m c T hT i
  · rw [C21_keep m c _ (by decide) (by decide) (by decide), C18_keep m c _ (by decide) (by decide) (by decide) (by decide)]
    exact C14_v65 m c T hT i
  · rw [C21_keep m c _ (by decide) (by decide) (by decide)]
    exact C18_v67 m c T hT i
  · rw [C21_keep m c _ (by decide) (by decide) (by decide)]
    exact C18_v68 m c T A S hT hA hS i b
  · rw [C21_keep m c _ (by decide) (by decide) (by decide)]
    exact C18_v71 m c T A S hT hA hS i b

/-! ## The results -/

include hT hA hS in
/-- The means. -/
theorem v114_value : (C22 m c (Proc.devRef .tc main_v114) : FVec Ideal S8192x8x64 .f32)
    = shapeCast S8192x8x64 (fun i : S8192x512.Idx => ((cubic (T (i 0)) (both A S (i 1)) (mtab (both A S (i 1))) : ℝ) : EReal))
        shapeCasts_S8192x512_S8192x8x64 := by
  refine (v114_eq (C21 m c)).trans (congrArg (fun f => shapeCast S8192x8x64 f shapeCasts_S8192x512_S8192x8x64) (funext fun j => ?_))
  obtain ⟨i, b, rfl⟩ : ∃ i b, j = ix2 i b := ⟨j 0, j 1, (ix2_eta j).symm⟩
  pointwise []
  exact C22_v112 m c T A S hT hA hS i ⟨b, by omega⟩

include hT hA hS in
/-- The deviations. -/
theorem v117_value : (C22 m c (Proc.devRef .tc main_v117) : FVec Ideal S8192x8x64 .f32)
    = shapeCast S8192x8x64 (fun i : S8192x512.Idx =>
        ((Real.exp (cubic (T (i 0)) (both A S (512 + (i 1 : ℕ))) (mtab (both A S (512 + (i 1 : ℕ))))) : ℝ) : EReal))
        shapeCasts_S8192x512_S8192x8x64 := by
  funext j
  refine (v117_eq (C21 m c) j).trans ?_
  have h : (extractStridedSlice S8192x512 ![0, 512]
        (C22 m c (Proc.devRef .tc main_v112) : FVec Ideal S8192x1024 .f32) slices_S8192x1024_S8192x512_0_512)
      = fun i : S8192x512.Idx => ((cubic (T (i 0)) (both A S (512 + (i 1 : ℕ))) (mtab (both A S (512 + (i 1 : ℕ)))) : ℝ) : EReal) := by
    funext j
    obtain ⟨i, b, rfl⟩ : ∃ i b, j = ix2 i b := ⟨j 0, j 1, (ix2_eta j).symm⟩
    pointwise []
    exact C22_v112 m c T A S hT hA hS i ⟨512 + (b : ℕ), by omega⟩
  refine (congrArg (fun f => Ideal.exp ((shapeCast S8192x8x64 f shapeCasts_S8192x512_S8192x8x64 : FVec Ideal S8192x8x64 .f32) j)) h).trans ?_
  exact Ideal.exp_coe _

end Cert.ReferenceIdeal.Value
-- ==== Proof.REnd.lean ====
/-
  The reference's run: it ends, leaves its arguments as they were and no semaphore counter raised.
-/
module

public import proofs.«01_k».proof.Proof.RValue
public import Idealize.ShloMosaic.Lib.Quiescent

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg) (c : Dev nD)

/-- An argument is not written: no part, nor the loop, has it among the buffers it writes. -/
theorem C22_args (r : Ref sig .tc) (hr : r ∈ [main_arg0, main_arg1, main_arg2, main_arg3]) : C22 m c (Proc.devRef .tc r) = m (c.tc.loc r) := by
  have no : ∀ W : List (Ref sig .tc), (∀ a ∈ [main_arg0, main_arg1, main_arg2, main_arg3], a ∉ W) → r ∉ W := fun W h => h r hr
  rw [C22_keep m c _ (no _ (by decide)), C21_keep m c _ (no _ (by decide)) (no _ (by decide)) (no _ (by decide)),
    C18_keep m c _ (no _ (by decide)) (no _ (by decide)) (no _ (by decide)) (no _ (by decide)),
    C14_keep m c _ (no _ (by decide)) (no _ (by decide)) (no _ (by decide)), C11_keep m c _ (no _ (by decide)) (no _ (by decide)),
    Z_keep m c _ (no _ (by decide)) (no _ (by decide)), B9_keep m c _ (no _ (by decide)),
    B8_keep m c _ (no _ (by decide)) (no _ (by decide)) (no _ (by decide)), B5_keep m c _ (no _ (by decide)) (no _ (by decide)),
    B3_keep m c _ (no _ (by decide)) (no _ (by decide)), B1_keep m c _ (no _ (by decide)) (no _ (by decide))]

/-- Every execution ends with each buffer as the last part leaves it. -/
theorem run_ends : θ_run defs (onTc (τ := τ) (main (F := Ideal))) ⟨m, fun _ => 0, ρ⟩ (fun r =>
    ∀ (c : Dev nD) (b : Ref sig .tc), (Proc.devRef .tc b : DevRef τ sig).isScoped = false →
      r.2.mem (c.tc.loc b) = C22 m c (Proc.devRef .tc b)) :=
  (θ_run defs _ _).mono (fun r h c b hb => (h c b hb).trans (congrFun (final_eq m c) _)) (run_fold m ρ)

/-- Every execution ends with the arguments as they were and every counter at zero. -/
theorem frame : θ_run defs (onTc (τ := τ) (main (F := Ideal))) ⟨m, fun _ => 0, ρ⟩ (fun r =>
    (∀ c : Dev nD, r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3))
      ∧ r.2.sem = fun _ => 0) :=
  (θ_run defs _ _).mono (fun r h => ⟨fun c => ⟨(h c main_arg0 rfl).trans (C22_args m c main_arg0 (by decide)), (h c main_arg1 rfl).trans (C22_args m c main_arg1 (by decide)),
    (h c main_arg2 rfl).trans (C22_args m c main_arg2 (by decide)), (h c main_arg3 rfl).trans (C22_args m c main_arg3 (by decide))⟩, sem_eq_zero_of_no_sems rfl _⟩) (run_ends m ρ)

end Cert.ReferenceIdeal.Value

end
-- ==== Proof.Finite.lean ====
/-
  What the precondition says: every point of evaluation and every entry of the two tables is a real number.
-/
module

public import proofs.«01_k».proof.Proof.Gen.Pre_finite
public import Idealize.ShloMosaic.Lib.ReduceAll
public import Idealize.ShloMosaic.Lib.Pointwise

@[expose] public section

noncomputable section

namespace Cert.Pre_finite.Value

open Idealize.ShloMosaic Cert.Pre_finite

attribute [local instance] Cert.Pre_finite.Gen.facts

/-- The bound of the comparison is plus infinity. -/
theorem top_bits : (FloatOps.ofBits .f32 0x7F800000#32 : Ideal .f32) = (⊤ : EReal) := by
  simp [FloatOps.ofBits, Ideal.ofBits, Ideal.ieee]

/-- A number whose size is less than plus infinity is real. -/
theorem real_of_lt (x : EReal) (h : max x (-x) < ⊤) : ((x.toReal : ℝ) : EReal) = x := by
  refine EReal.coe_toReal (fun e => ?_) fun e => ?_
  · subst e; simp at h
  · subst e; simp at h

/-- There is one index of the scalar shape. -/
instance : Subsingleton S_.Idx := ⟨fun i j => funext fun k => k.elim0⟩

/-- A number that passes the comparison is real. -/
theorem real_of_bit (x : Ideal .f32) (h : FloatOps.cmpf (F := Ideal) (φ := .f32) .olt (FloatOps.absf x) (FloatOps.ofBits .f32 0x7F800000#32) = 1#1) :
    ((EReal.toReal x : ℝ) : EReal) = x := by
  rw [top_bits] at h
  refine real_of_lt x ?_
  by_contra hn
  have e : FloatOps.cmpf (F := Ideal) (φ := .f32) .olt (FloatOps.absf x) (⊤ : EReal) = BitVec.ofBool (decide (max x (-x) < ⊤)) := rfl
  rw [e, decide_eq_false hn] at h
  exact absurd h (by decide)

variable (t : FVec Ideal S8192 .f32) (a s : FVec Ideal S126x512 .f32) (w : FVec Ideal S8 .f32)

/-- The precondition, read entry by entry. -/
theorem entries (h : fn (F := Ideal) t a s w = fun _ => 1#1) :
    (∀ i, ((EReal.toReal (t i) : ℝ) : EReal) = t i) ∧ (∀ i, ((EReal.toReal (a i) : ℝ) : EReal) = a i) ∧ ∀ i, ((EReal.toReal (s i) : ℝ) : EReal) = s i := by
  have h0 := congrFun h (fun k => k.elim0)
  dsimp only [fn] at h0
  obtain ⟨h1, hs⟩ := IntOp.andi_eq_one.1 h0
  obtain ⟨ht, ha⟩ := IntOp.andi_eq_one.1 h1
  exact ⟨fun i => real_of_bit _ (Host.reduce_andi_all _ _ _ _ _ ht i), fun i => real_of_bit _ (Host.reduce_andi_all _ _ _ _ _ ha i),
    fun i => real_of_bit _ (Host.reduce_andi_all _ _ _ _ _ hs i)⟩

/-- The points of evaluation, as real numbers. -/
def points (k : ℕ) : ℝ := if h : k < 8192 then EReal.toReal (t (ix1 ⟨k, h⟩)) else 0

/-- A table, as real numbers: the entry of a channel at an inner knot. -/
def table (b k : ℕ) : ℝ := if h : k < 126 ∧ b < 512 then EReal.toReal (a (ix2 ⟨k, h.1⟩ ⟨b, h.2⟩)) else 0

/-- The points are what the array holds. -/
theorem points_eq (h : fn (F := Ideal) t a s w = fun _ => 1#1) (i : Fin 8192) : t (ix1 i) = ((points t i : ℝ) : EReal) := by
  rw [points, dif_pos i.2]
  exact ((entries t a s w h).1 (ix1 i)).symm

/-- The first table is what the array holds. -/
theorem table_eq₁ (h : fn (F := Ideal) t a s w = fun _ => 1#1) (i : Fin 126) (b : Fin 512) : a (ix2 i b) = ((table a b i : ℝ) : EReal) := by
  rw [table, dif_pos ⟨i.2, b.2⟩]
  exact ((entries t a s w h).2.1 (ix2 i b)).symm

/-- The second table is what the array holds. -/
theorem table_eq₂ (h : fn (F := Ideal) t a s w = fun _ => 1#1) (i : Fin 126) (b : Fin 512) : s (ix2 i b) = ((table s b i : ℝ) : EReal) := by
  rw [table, dif_pos ⟨i.2, b.2⟩]
  exact ((entries t a s w h).2.2 (ix2 i b)).symm

end Cert.Pre_finite.Value

end
-- ==== Proof.lean ====
/-
  The certificate's claims, each from its part: the frames, the values of the named constants, and the agreement of the
  kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KRun
public import proofs.«01_k».proof.Proof.KValue
public import proofs.«01_k».proof.Proof.REnd
public import proofs.«01_k».proof.Proof.Finite
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts

/-- The named constants have the values they are named for. -/
theorem preserves : preserves_Kernel_KernelIdeal :=
  ⟨IdealRules.named_const.statement _ _ _ _ _ rfl, IdealRules.named_const.statement _ _ _ _ _ rfl,
    IdealRules.named_const.statement _ _ _ _ _ rfl⟩

/-- On real inputs the kernel and the reference both end with the spline's means and deviations, and the logits unchanged. -/
theorem algebraic : algebraic_KernelIdeal_ReferenceIdeal_pre_finite := by
  intro m g m' g' hpre heq
  have hT := fun c => Cert.Pre_finite.Value.points_eq _ _ _ _ (hpre c)
  have hA := fun c => Cert.Pre_finite.Value.table_eq₁ _ _ _ _ (hpre c)
  have hS := fun c => Cert.Pre_finite.Value.table_eq₂ _ _ _ _ (hpre c)
  have hT' := fun c i => (congrFun (heq c).1 _).trans (hT c i)
  have hA' := fun c i b => (congrFun (heq c).2.1 _).trans (hA c i b)
  have hS' := fun c i b => (congrFun (heq c).2.2.1 _).trans (hS c i b)
  refine ⟨fun c => Cert.KernelIdeal.Gen.W5 m g c (Proc.devRef .tc Cert.KernelIdeal.main_v79),
    fun c => Cert.KernelIdeal.Gen.W5 m g c (Proc.devRef .tc Cert.KernelIdeal.main_v80),
    fun c => m (c.tc.loc Cert.KernelIdeal.main_arg3), ?_, ?_⟩
  · refine (θ_run _ _ _).mono (fun r h c => ?_) (Cert.KernelIdeal.Value.run_ends m g)
    exact ⟨h c _ (Cert.KernelIdeal.Gen.mem_uc Cert.KernelIdeal.main_v79 (by decide)),
      h c _ (Cert.KernelIdeal.Gen.mem_uc Cert.KernelIdeal.main_v80 (by decide)),
      (h c _ (Cert.KernelIdeal.Gen.mem_uc Cert.KernelIdeal.main_arg3 (by decide))).trans (Cert.KernelIdeal.Gen.W5_main_arg3 m g c),
      (h c _ (Cert.KernelIdeal.Gen.mem_uc Cert.KernelIdeal.main_arg0 (by decide))).trans (Cert.KernelIdeal.Gen.W5_main_arg0 m g c),
      (h c _ (Cert.KernelIdeal.Gen.mem_uc Cert.KernelIdeal.main_arg1 (by decide))).trans (Cert.KernelIdeal.Gen.W5_main_arg1 m g c),
      (h c _ (Cert.KernelIdeal.Gen.mem_uc Cert.KernelIdeal.main_arg2 (by decide))).trans (Cert.KernelIdeal.Gen.W5_main_arg2 m g c),
      (h c _ (Cert.KernelIdeal.Gen.mem_uc Cert.KernelIdeal.main_arg3 (by decide))).trans (Cert.KernelIdeal.Gen.W5_main_arg3 m g c)⟩
  · refine (θ_run _ _ _).mono (fun r h c => ?_) (Cert.ReferenceIdeal.Value.run_ends m' g')
    have a3 := (h c Cert.ReferenceIdeal.main_arg3 rfl).trans (Cert.ReferenceIdeal.Value.C22_args m' c Cert.ReferenceIdeal.main_arg3 (by decide))
    exact ⟨((h c Cert.ReferenceIdeal.main_v114 rfl).trans (Cert.ReferenceIdeal.Value.v114_value m' c _ _ _ (hT' c) (hA' c) (hS' c))).trans
        (Cert.KernelIdeal.Value.v79_eq m g c _ _ _ (hT c) (hA c) (hS c)).symm,
      ((h c Cert.ReferenceIdeal.main_v117 rfl).trans (Cert.ReferenceIdeal.Value.v117_value m' c _ _ _ (hT' c) (hA' c) (hS' c))).trans
        (Cert.KernelIdeal.Value.v80_eq m g c _ _ _ (hT c) (hA c) (hS c)).symm,
      a3.trans (heq c).2.2.2,
      (h c Cert.ReferenceIdeal.main_arg0 rfl).trans (Cert.ReferenceIdeal.Value.C22_args m' c Cert.ReferenceIdeal.main_arg0 (by decide)),
      (h c Cert.ReferenceIdeal.main_arg1 rfl).trans (Cert.ReferenceIdeal.Value.C22_args m' c Cert.ReferenceIdeal.main_arg1 (by decide)),
      (h c Cert.ReferenceIdeal.main_arg2 rfl).trans (Cert.ReferenceIdeal.Value.C22_args m' c Cert.ReferenceIdeal.main_arg2 (by decide)), a3⟩

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => Cert.ReferenceIdeal.Value.frame m g, fun m g _ => Cert.ReferenceIdeal.Value.frame m g, preserves, algebraic⟩

end Cert.Proof

end
